-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_table : Cert.Pre_in_table.Facts] (m : (ℓ : Loc Cert.Reference.nD Cert.Reference.τ Cert.Reference.sig) → Buf (Elt Bits) ℓ) : Prop :=
  ∀ c : Dev Cert.Reference.nD,
    (Cert.Pre_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_table : Cert.Pre_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Reference (hReference := hReference) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
    ∧ bitexact_Kernel_Reference (hKernel := hKernel) (hReference := hReference) (hPre_in_table := hPre_in_table)
-- ==== Pre_in_table.lean ====
abbrev S16384 : Shape := ⟨1, ![16384]⟩
abbrev S1001x128 : Shape := ⟨2, ![1001, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1001x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .sle main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1001x128 : Shape := ⟨2, ![1001, 128]⟩
abbrev S1x16384 : Shape := ⟨2, ![1, 16384]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S1001x128, .f32⟩
  | .hbm, ⟨2, _⟩ => ⟨S1x16384, .i32⟩
  | .hbm, ⟨3, _⟩ => ⟨S16384x128, .f32⟩
  | .local .scVector .vmem, ⟨0, _⟩ => ⟨S2x1x256, .i32⟩
  | .local .scVector .vmem, ⟨1, _⟩ => ⟨S2x256x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k0_off2 (i : grid0.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k0_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k0_off5 (i : grid0.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k0_off8 (i : grid0.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k0_off19 (i : grid0.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k0_chk5 (i : grid0.Coords) (v33_4_r0 : BitVec 32) : Prop :=
  (∀ a, (k0_off19 i v33_4_r0) a + S256x128.size a ≤ S16384x128.size a)
theorem k0_off19_inb : ∀ (i : grid0.Coords) (v33_4_r0 : BitVec 32) (k0_hw5 : k0_chk5 i v33_4_r0), ∀ a, (k0_off19 i v33_4_r0) a + S256x128.size a ≤ S16384x128.size a := fun i v33_4_r0 k0_hw5 => k0_hw5

def k0_off20 (v33_3_r0 : BitVec 32) : Fin 1 → Nat :=
  let c2_i32_48_r0 : BitVec 32 := 2#32
  let v54_r0 : BitVec 32 := Scalar.remui v33_3_r0 c2_i32_48_r0
  ![v54_r0.toNat]
def k0_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1001x128 : Shape := ⟨2, ![1001, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Offsets.lean ====
/-
  The index arithmetic of the kernel: at each grid point and each of the two steps of the pipeline, which slot, which
  semaphore and which block of 256 rows each copy names, which of the conditional steps run, and that the side
  conditions the body assumes hold. Every statement ranges over the 32 grid points and is decided.
-/
module

public import proofs.«01_k».proof.Proof.Gen.KernelIdeal

@[expose] public section

noncomputable section

namespace Cert.Proof

open Cert.KernelIdeal Cert.KernelIdeal.Gen
open Idealize.ShloMosaic

/-- The step number as the 32-bit word the loop carries. -/
abbrev wd (k : Fin 2) : BitVec 32 := BitVec.ofNat 32 k.val

/-- The block of 256 rows that the task at grid point `L` handles at step `k`: tasks are numbered across the
    SparseCores, sixteen to each, and each task takes two blocks in a row. -/
def blk (L : grid0.Coords) (k : Fin 2) : Fin 64 :=
  ⟨2 * ((L 1).val + 16 * (L 0).val) + k.val, by
    have h0 : (L 0).val < 2 := (L 0).isLt
    have h1 : (L 1).val < 16 := (L 1).isLt
    omega⟩

/-- The loop's bounds make two trips. -/
theorem trips_eq : k0_t1_loop.trips = 2 := by decide +kernel

/-- The trip number of step `k`. -/
def trip (k : Fin 2) : Fin k0_t1_loop.trips := ⟨k.val, by rw [trips_eq]; exact k.isLt⟩

/-! ## The slots and blocks the copies name -/

theorem off1_eq : k0_off1 = ![0, 0, 0] := by decide +kernel
theorem off2_eq : ∀ L : grid0.Coords, k0_off2 L = ![0, 256 * (blk L 0).val] := by decide +kernel
theorem off3_eq : k0_off3 = ![0] := by decide +kernel

/-- The index copy issued ahead at step 0 goes to slot 1, from the task's second block. -/
theorem off4_eq : k0_off4 1#32 = ![1, 0, 0] := by decide +kernel
theorem off5_eq : ∀ L : grid0.Coords, k0_off5 L 0#32 = ![0, 256 * (blk L 1).val] := by decide +kernel
theorem off6_eq : k0_off6 1#32 = ![1] := by decide +kernel

/-- At step `k` the indices wait, the gather and the write-out all use slot `k` and block `blk L k`. -/
theorem off7_eq : ∀ k : Fin 2, k0_off7 (wd k) = ![k.val, 0, 0] := by decide +kernel
theorem off8_eq : ∀ (L : grid0.Coords) (k : Fin 2), k0_off8 L (wd k) = ![0, 256 * (blk L k).val] := by decide +kernel
theorem off9_eq : ∀ k : Fin 2, k0_off9 (wd k) = ![k.val] := by decide +kernel
theorem off10_eq : ∀ k : Fin 2, k0_off10 (wd k) = ![k.val, 0, 0] := by decide +kernel
theorem off11_eq : ∀ k : Fin 2, k0_off11 (wd k) = ![k.val, 0, 0] := by decide +kernel
theorem off12_eq : ∀ k : Fin 2, k0_off12 (wd k) = ![k.val, 0, 0] := by decide +kernel
theorem off13_eq : ∀ (L : grid0.Coords) (k : Fin 2), k0_off13 L (wd k) = ![256 * (blk L k).val, 0] := by decide +kernel
theorem off14_eq : ∀ k : Fin 2, k0_off14 (wd k) = ![k.val] := by decide +kernel

/-- The write-out awaited at step 1 is the one of slot 0, of the task's first block. -/
theorem off15_eq : k0_off15 0#32 = ![0, 0, 0] := by decide +kernel
theorem off16_eq : ∀ L : grid0.Coords, k0_off16 L 1#32 = ![256 * (blk L 0).val, 0] := by decide +kernel
theorem off17_eq : k0_off17 0#32 = ![0] := by decide +kernel

/-- The write-out awaited after the loop is the one of slot 1, of the task's second block. -/
theorem off19_eq : ∀ L : grid0.Coords, k0_off19 L 0#32 = ![256 * (blk L 1).val, 0] := by decide +kernel
theorem off20_eq : k0_off20 1#32 = ![1] := by decide +kernel
theorem off21_eq : k0_off21 1#32 = ![1, 0, 0] := by decide +kernel

/-! ## Which conditional steps run -/

/-- The next block's indices are fetched ahead at step 0 only. -/
theorem cond1_zero : ∀ L : grid0.Coords, k0_cond1 L (trip 0) 0#32 = 1#1 := by decide +kernel
theorem cond1_one : ∀ L : grid0.Coords, ¬ k0_cond1 L (trip 1) 1#32 = 1#1 := by decide +kernel
/-- Every step waits for its indices and writes its rows out. -/
theorem cond2_eq : ∀ (L : grid0.Coords) (k : Fin 2), k0_cond2 L (trip k) (wd k) = 1#1 := by decide +kernel
theorem cond5_eq : ∀ (L : grid0.Coords) (k : Fin 2), k0_cond5 L (trip k) (wd k) = 1#1 := by decide +kernel
/-- The previous write-out is awaited at step 1 only. -/
theorem cond7_zero : ∀ L : grid0.Coords, ¬ k0_cond7 L (trip 0) 0#32 = 1#1 := by decide +kernel
theorem cond7_one : ∀ L : grid0.Coords, k0_cond7 L (trip 1) 1#32 = 1#1 := by decide +kernel

/-! ## What the body assumes -/

theorem chk1_zero : ∀ L : grid0.Coords, k0_chk1 L (trip 0) 1#32 0#32 0#32 0#32 0#32 := by decide +kernel
theorem chk1_one : ∀ L : grid0.Coords, k0_chk1 L (trip 1) 2#32 1#32 1#32 0#32 1#32 := by decide +kernel
theorem chk2_eq : ∀ k : Fin 2, k0_chk2 (wd k) := by decide +kernel
theorem chk3_eq : ∀ k : Fin 2, k0_chk3 (wd k) := by decide +kernel
theorem chk4_eq : k0_chk4 1#32 := by decide +kernel
theorem chk5_eq : ∀ L : grid0.Coords, k0_chk5 L 0#32 := by decide +kernel

end Cert.Proof

end
-- ==== Proof.Blocks.lean ====
/-
  The pieces the kernel's copies name — the 64 blocks of 256 row numbers, the 64 blocks of 256 result rows, the two
  slots of each task's two scratch buffers — and what each holds: a slot of row numbers its block's, a slot of rows the
  table's rows its block's numbers name, a result block those rows. Each copy takes one of these contents to the next
  (`fetch_lands`, `gather_lands`, `store_lands`), stated once for every block and slot and any float values.
-/
module

public import proofs.«01_k».proof.Proof.Offsets
public import Idealize.ShloMosaic.Lib.SparseCore.Stream
public import Idealize.ShloMosaic.Lib.ViewIndex
public import Idealize.ShloMosaic.Lib.ValueLayout

@[expose] public section

noncomputable section

namespace Cert.Proof

open Cert.KernelIdeal Cert.KernelIdeal.Gen
open Idealize.ShloMosaic Idealize.ShloMosaic.ValueIdx

variable {F : FTy → Type}

/-! ## The pieces -/

abbrev tblV : Memref sig .scVector .hbm S1001x128 .f32 := Memref.whole main_arg1_scv
abbrev idxV : Memref sig .scVector .hbm S1x16384 .i32 := Memref.whole main_v0_scv
abbrev outV : Memref sig .scVector .hbm S16384x128 .f32 := Memref.whole main_v1_scv
abbrev isV : Memref sig .scVector .vmem S2x1x256 .i32 := Memref.whole cc0_scoped0
abbrev osV : Memref sig .scVector .vmem S2x256x128 .f32 := Memref.whole cc0_scoped2

theorem inb_idx (j : Fin 64) : ∀ a, (![0, 256 * j.val] : Fin 2 → Nat) a + S1x256.size a ≤ S1x16384.size a :=
  Rect.inb₂ (show 0 + 1 ≤ 1 by decide) (show 256 * j.val + 256 ≤ 16384 by omega)
theorem inb_out (j : Fin 64) : ∀ a, (![256 * j.val, 0] : Fin 2 → Nat) a + S256x128.size a ≤ S16384x128.size a :=
  Rect.inb₂ (show 256 * j.val + 256 ≤ 16384 by omega) (show 0 + 128 ≤ 128 by decide)
theorem inb_is : ∀ (k : Fin 2) (a : Fin 3), (![k.val, 0, 0] : Fin 3 → Nat) a + S1x1x256.size a ≤ S2x1x256.size a := by decide
theorem inb_os : ∀ (k : Fin 2) (a : Fin 3), (![k.val, 0, 0] : Fin 3 → Nat) a + S1x256x128.size a ≤ S2x256x128.size a := by decide
theorem inb_sem : ∀ (k : Fin 2) (a : Fin 1), (![k.val] : Fin 1 → Nat) a + S1.size a ≤ S2.size a := by decide

abbrev idxR (j : Fin 64) : Rect S1x16384 := Rect.unit (s := S1x16384) ![0, 256 * j.val] S1x256.size (inb_idx j)
abbrev outR (j : Fin 64) : Rect S16384x128 := Rect.unit (s := S16384x128) ![256 * j.val, 0] S256x128.size (inb_out j)
abbrev isR (k : Fin 2) : Rect S2x1x256 := Rect.unit (s := S2x1x256) ![k.val, 0, 0] S1x1x256.size (inb_is k)
abbrev osR (k : Fin 2) : Rect S2x256x128 := Rect.unit (s := S2x256x128) ![k.val, 0, 0] S1x256x128.size (inb_os k)

/-- Block `j` of the row numbers. -/
abbrev idxB (j : Fin 64) : Memref sig .scVector .hbm S1x256 .i32 := idxV.slice (idxR j) (fun _ => rfl)
/-- Block `j` of the result. -/
abbrev outB (j : Fin 64) : Memref sig .scVector .hbm S256x128 .f32 := outV.slice (outR j) (fun _ => rfl)
/-- Slot `k` of the scratch row numbers, -/
abbrev isS (k : Fin 2) : Memref sig .scVector .vmem S1x256 .i32 := (isV.slice (isR k) (fun _ => rfl)).squeeze S1x256 squeezes_S1x1x256_S1x256
/-- and the same slot as the one-dimensional list the gather takes. -/
abbrev listS (k : Fin 2) : Memref sig .scVector .vmem S256 .i32 :=
  ((isS k).slice (Rect.unit (s := S1x256) ![0, 0] S1x256.size inb_S1x256_S1x256_0_0) (fun _ => rfl)).squeeze S256 squeezes_S1x256_S256
/-- Slot `k` of the scratch rows. -/
abbrev osS (k : Fin 2) : Memref sig .scVector .vmem S256x128 .f32 := (osV.slice (osR k) (fun _ => rfl)).squeeze S256x128 squeezes_S1x256x128_S256x128
/-- The whole table, as the gather names it. -/
abbrev tblB : Memref sig .scVector .hbm S1001x128 .f32 :=
  tblV.slice (Rect.unit (s := S1001x128) ![0, 0] S1001x128.size inb_S1001x128_S1001x128_0_0) (fun _ => rfl)

/-- The semaphore of slot `k`'s copies in, and of its copies out. -/
abbrev isem (k : Fin 2) : DmaSem sig := ((cc0_scoped1.slice (Rect.unit (s := S2) ![k.val] S1.size (inb_sem k))).squeeze S_ squeezes_S1_S_).sem
abbrev osem (k : Fin 2) : DmaSem sig := ((cc0_scoped3.slice (Rect.unit (s := S2) ![k.val] S1.size (inb_sem k))).squeeze S_ squeezes_S1_S_).sem
abbrev gsem : DmaSem sig := cc0_scoped4.sem

/-! ## What they hold -/

/-- The row numbers, as the kernel's two-dimensional array of one row. -/
def nums (t : S16384.Idx → Elt F .i32) : S1x16384.Idx → Elt F .i32 := fun p => t (ix1 (p 1))

/-- THE RESULT: row `r` is the table's row that number `r` names. (`% 1001` only makes it a row for every number; under
    the precondition each number is below 1001.) -/
def picked (t : S16384.Idx → Elt F .i32) (T : S1001x128.Idx → Elt F .f32) : S16384x128.Idx → Elt F .f32 :=
  fun p => T (ix2 (Fin.ofNat 1001 (t (ix1 (p 0))).toNat) (p 1))

/-- The scratch row numbers, each slot at block `j`'s. -/
def numsAt (t : S16384.Idx → Elt F .i32) (j : Fin 64) : S2x1x256.Idx → Elt F .i32 :=
  fun p => t (ix1 (⟨256 * j.val + (p 2).val, by have h : (p 2).val < 256 := (p 2).isLt; omega⟩ : Fin 16384))

/-- The scratch rows, each slot at block `j`'s. -/
def rowsAt (t : S16384.Idx → Elt F .i32) (T : S1001x128.Idx → Elt F .f32) (j : Fin 64) : S2x256x128.Idx → Elt F .f32 :=
  fun p => picked t T (ix2 (⟨256 * j.val + (p 1).val, by have h : (p 1).val < 256 := (p 1).isLt; omega⟩ : Fin 16384) (p 2))

/-! ## Where each piece's elements lie -/

theorem emb_idxB (j : Fin 64) (y : S1x256.Idx) (h : 256 * j.val + (y 1).val < 16384) :
    (idxB j).view.emb y = ix2 (y 0 : Fin 1) (⟨256 * j.val + (y 1).val, h⟩ : Fin 16384) := by
  funext a
  match a with
  | ⟨0, _⟩ => exact Fin.ext (show 0 + 1 * (y 0).val = (y 0).val by omega)
  | ⟨1, _⟩ => exact Fin.ext (show 256 * j.val + 1 * (y 1).val = 256 * j.val + (y 1).val by omega)

theorem emb_outB (j : Fin 64) (y : S256x128.Idx) (h : 256 * j.val + (y 0).val < 16384) :
    (outB j).view.emb y = ix2 (⟨256 * j.val + (y 0).val, h⟩ : Fin 16384) (y 1 : Fin 128) := by
  funext a
  match a with
  | ⟨0, _⟩ => exact Fin.ext (show 256 * j.val + 1 * (y 0).val = 256 * j.val + (y 0).val by omega)
  | ⟨1, _⟩ => exact Fin.ext (show 0 + 1 * (y 1).val = (y 1).val by omega)

theorem emb_tblB (y : S1001x128.Idx) : tblB.view.emb y = y := by
  funext a
  match a with
  | ⟨0, _⟩ => exact Fin.ext (show 0 + 1 * (y 0).val = (y 0).val by omega)
  | ⟨1, _⟩ => exact Fin.ext (show 0 + 1 * (y 1).val = (y 1).val by omega)

/-- An element of slot `k` of the scratch row numbers: the last coordinate is the number's place in the slot. -/
theorem emb_isS (k : Fin 2) (y : S1x256.Idx) : ((isS k).view.emb y 2).val = (y 1).val := by
  obtain ⟨x0, x1, rfl⟩ : ∃ (x0 : Fin 1) (x1 : Fin 256), y = ix2 x0 x1 :=
    ⟨y 0, y 1, funext fun a => match a with | ⟨0, _⟩ => rfl | ⟨1, _⟩ => rfl⟩
  show ((isR k).emb (Shape.reshapeEquiv squeezes_S1x1x256_S1x256.numel_eq (ix2 x0 x1)) 2).val = x1.val
  rw [reshapeEquiv_ix2_1ab]
  show 0 + 1 * x1.val = x1.val
  omega

theorem emb_osS (k : Fin 2) (y : S256x128.Idx) :
    ((osS k).view.emb y 1).val = (y 0).val ∧ ((osS k).view.emb y 2).val = (y 1).val := by
  obtain ⟨x0, x1, rfl⟩ : ∃ (x0 : Fin 256) (x1 : Fin 128), y = ix2 x0 x1 :=
    ⟨y 0, y 1, funext fun a => match a with | ⟨0, _⟩ => rfl | ⟨1, _⟩ => rfl⟩
  show ((osR k).emb (Shape.reshapeEquiv squeezes_S1x256x128_S256x128.numel_eq (ix2 x0 x1)) 1).val = x0.val
    ∧ ((osR k).emb (Shape.reshapeEquiv squeezes_S1x256x128_S256x128.numel_eq (ix2 x0 x1)) 2).val = x1.val
  rw [reshapeEquiv_ix2_1ab]
  exact ⟨show 0 + 1 * x0.val = x0.val by omega, show 0 + 1 * x1.val = x1.val by omega⟩

/-- The list's element `x` is the slot's element `(0, x)`. -/
theorem emb_listS (k : Fin 2) (x : S256.Idx) : (listS k).view.emb x = (isS k).view.emb (ix2 (0 : Fin 1) (x 0 : Fin 256)) := by
  show (isS k).view.emb ((Rect.unit (s := S1x256) ![0, 0] S1x256.size inb_S1x256_S1x256_0_0).emb
    (Shape.reshapeEquiv squeezes_S1x256_S256.numel_eq x)) = _
  congr 1
  have e : Shape.reshapeEquiv squeezes_S1x256_S256.numel_eq x = (ix2 (0 : Fin 1) (x 0 : Fin 256) : S1x256.Idx) :=
    Shape.reshapeEquiv_eq_of_rowMajor _ (by
      rw [Shape.rowMajor_val_two, Shape.rowMajor_val_one]
      show 0 * 256 + (x 0).val = (x 0).val
      omega)
  rw [e]
  funext a
  match a with
  | ⟨0, _⟩ => rfl
  | ⟨1, _⟩ => exact Fin.ext (show 0 + 1 * (x 0).val = (x 0).val by omega)

/-- The list is the whole slot. -/
theorem set_listS (k : Fin 2) : (listS k).view.set = (isS k).view.set := by
  ext i
  constructor <;> intro hi <;> obtain ⟨x, -, rfl⟩ := Finset.mem_map.mp hi
  · exact Finset.mem_map.mpr ⟨_, Finset.mem_univ _, (emb_listS k x).symm⟩
  · refine Finset.mem_map.mpr ⟨ix1 (x 1 : Fin 256), Finset.mem_univ _, (emb_listS k _).trans (congrArg _ ?_)⟩
    funext a
    match a with
    | ⟨0, _⟩ => exact Fin.ext (by have h : (x 0).val < 1 := (x 0).isLt; show 0 = (x 0).val; omega)
    | ⟨1, _⟩ => rfl

/-! ## What each copy lands -/

variable (t : S16384.Idx → Elt F .i32) (T : S1001x128.Idx → Elt F .f32)

/-- Reading block `j` of the row numbers. -/
theorem read_idxB (j : Fin 64) (y : S1x256.Idx) :
    (idxB j).view.read (Elt F) (nums t) y = t (ix1 (⟨256 * j.val + (y 1).val, by have h : (y 1).val < 256 := (y 1).isLt; omega⟩ : Fin 16384)) := by
  rw [View.read_apply, cast_eq, emb_idxB j y (by have h : (y 1).val < 256 := (y 1).isLt; omega)]
  rfl

/-- Reading slot `k` of the scratch row numbers at block `j`'s, as the list the gather takes. -/
theorem read_listS (k : Fin 2) (j : Fin 64) (x : S256.Idx) :
    (listS k).view.read (Elt F) (numsAt t j) x = t (ix1 (⟨256 * j.val + (x 0).val, by have h : (x 0).val < 256 := (x 0).isLt; omega⟩ : Fin 16384)) := by
  rw [View.read_apply, cast_eq, emb_listS]
  unfold numsAt
  congr 2
  exact Fin.ext (congrArg (256 * j.val + ·) (emb_isS k _))

/-- A fetch of block `j` into slot `k` leaves the slot at the block's row numbers. -/
theorem fetch_lands (k : Fin 2) (j : Fin 64) (f : S2x1x256.Idx → Elt F .i32) :
    ∀ i ∈ (isS k).view.set, (isS k).view.write (Elt F) f ((idxB j).view.read (Elt F) (nums t)) Finset.univ i = numsAt t j i := by
  intro i hi
  obtain ⟨y, -, rfl⟩ := Finset.mem_map.mp hi
  rw [View.write_emb_of_mem _ _ (Finset.mem_univ y), cast_eq, read_idxB]
  unfold numsAt
  congr 2
  exact Fin.ext (congrArg (256 * j.val + ·) (emb_isS k y).symm)

/-- The gather of slot `k`'s list, holding block `j`'s numbers, leaves slot `k` of the rows at the block's rows. -/
theorem gather_lands (k : Fin 2) (j : Fin 64) (f : S2x256x128.Idx → Elt F .f32)
    (hn : S256.numel = S256x128.size gathers_S1001x128_S256x128.axis')
    (hin : ∀ x, ((listS k).view.read (Elt F) (numsAt t j) x).toNat < S1001x128.size gathers_S1001x128_S256x128.axis) :
    ∀ i ∈ (osS k).view.set, (osS k).view.write (Elt F) f (SparseCore.gatherPayload gathers_S1001x128_S256x128 (tblB.view.read (Elt F) T)
        (SparseCore.rows ((listS k).view.read (Elt F) (numsAt t j)) hn hin)) Finset.univ i = rowsAt t T j i := by
  intro i hi
  obtain ⟨y, -, rfl⟩ := Finset.mem_map.mp hi
  rw [View.write_emb_of_mem _ _ (Finset.mem_univ y), cast_eq]
  unfold SparseCore.gatherPayload rowsAt picked
  rw [View.read_apply, cast_eq, emb_tblB]
  obtain ⟨e1, e2⟩ := emb_osS k y
  have hrow : (SparseCore.rows ((listS k).view.read (Elt F) (numsAt t j)) hn hin (y gathers_S1001x128_S256x128.axis')).val
      = (t (ix1 (⟨256 * j.val + (y 0).val, by have h : (y 0).val < 256 := (y 0).isLt; omega⟩ : Fin 16384))).toNat := by
    unfold SparseCore.rows
    show ((listS k).view.read (Elt F) (numsAt t j) _).toNat = _
    rw [read_listS]
    congr 4
    exact congrArg (256 * j.val + ·) ((Shape.rowMajor_val_one _).symm.trans (by rw [Equiv.apply_symm_apply]; rfl))
  have hlt := (SparseCore.rows ((listS k).view.read (Elt F) (numsAt t j)) hn hin (y gathers_S1001x128_S256x128.axis')).isLt
  rw [hrow] at hlt
  congr 1
  funext a
  match a with
  | ⟨0, _⟩ =>
    refine Fin.ext ((congrArg Fin.val (Shape.Gathers.idx_axis gathers_S1001x128_S256x128 _ y)).trans (hrow.trans ?_))
    show _ = (t (ix1 (⟨256 * j.val + ((osS k).view.emb y 1).val, _⟩ : Fin 16384))).toNat % 1001
    simp only [e1]
    exact (Nat.mod_eq_of_lt hlt).symm
  | ⟨1, _⟩ =>
    refine Fin.ext ((Shape.Gathers.idx_of_ne gathers_S1001x128_S256x128 _ y 1 (by decide)).trans ?_)
    exact e2.symm

/-- A write-out of slot `k`, holding block `j`'s rows, leaves block `j` of the result at the result. -/
theorem store_lands (k : Fin 2) (j : Fin 64) (f : S16384x128.Idx → Elt F .f32) :
    ∀ i ∈ (outB j).view.set, (outB j).view.write (Elt F) f ((osS k).view.read (Elt F) (rowsAt t T j)) Finset.univ i = picked t T i := by
  intro i hi
  obtain ⟨y, -, rfl⟩ := Finset.mem_map.mp hi
  obtain ⟨e1, e2⟩ := emb_osS k y
  rw [View.write_emb_of_mem _ _ (Finset.mem_univ y), cast_eq, View.read_apply, cast_eq, emb_outB j y (by have h : (y 0).val < 256 := (y 0).isLt; omega)]
  unfold rowsAt
  congr 1
  funext a
  match a with
  | ⟨0, _⟩ => exact Fin.ext (congrArg (256 * j.val + ·) e1)
  | ⟨1, _⟩ => exact Fin.ext e2

end Cert.Proof

end
-- ==== Proof.Steps.lean ====
/-
  The kernel's copies as steps of a proof, on one task's vector subcore: a fetch of a block of row numbers into a slot
  and its wait, the gather of a slot's rows and its wait, the write-out of a slot to a block of the result and its wait.
  Each is stated once, for every slot and block, with what it leaves in the slot or block (Blocks.lean).
-/
module

public import proofs.«01_k».proof.Proof.Blocks
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UU : Type := UH × Counters

local notation "𝕄" => MT nD τ sig (HIx 1) (Elt F) ℕ UU ℕ

/-- The task at grid point `L` runs on this subcore of device `d`. -/
abbrev thr (d : Dev nD) (L : grid0.Coords) : Thread nD τ := V d ((L 0).castLE hcore0) ((L 1).castLE hsub0)

variable (d : Dev nD) (L : grid0.Coords) (t : S16384.Idx → Elt F .i32) (T : S1001x128.Idx → Elt F .f32)

/-! ## The resources -/

/-- Block `j` of the row numbers, slot `k` of the scratch numbers and of the scratch rows, block `j` of the result. -/
abbrev idxP (j : Fin 64) : sProp 𝕄 := (idxB j).view.loc (thr d L) ↦[(idxB j).view.set]{fullShare} nums t
abbrev isP (k : Fin 2) (f : S2x1x256.Idx → Elt F .i32) : sProp 𝕄 := (isS k).view.loc (thr d L) ↦[(isS k).view.set]{fullShare} f
abbrev osP (k : Fin 2) (f : S2x256x128.Idx → Elt F .f32) : sProp 𝕄 := (osS k).view.loc (thr d L) ↦[(osS k).view.set]{fullShare} f
abbrev outP (j : Fin 64) (f : S16384x128.Idx → Elt F .f32) : sProp 𝕄 := (outB j).view.loc (thr d L) ↦[(outB j).view.set]{fullShare} f
/-- A share of the table. -/
abbrev tblP (q : PosShare TreeShare) : sProp 𝕄 := tblB.view.loc (thr d L) ↦[tblB.view.set]{q} T
abbrev zeroP (s : DmaSem sig) : sProp 𝕄 := semVal (thr d L, .dma s) 0

/-- What the subcore owes: as at the task's start, with more waits recorded, all at the kernel's own index. -/
def debt (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-- A fetch of block `j` into slot `k` under way: it will deliver the slot holding the block's numbers. -/
def fetching (k : Fin 2) (j : Fin 64) : sProp 𝕄 :=
  Transfers.Flight countersEmb (thr d L) (.dma (isem k)) (default : HIx 1) (isS k).view.dmaCredit iprop(isP d L k (numsAt t j) ∗ idxP d L t j)

/-- A write-out of slot `k` to block `j` under way: it will deliver the block holding the result. -/
def storing (k : Fin 2) (j : Fin 64) : sProp 𝕄 :=
  Transfers.Flight countersEmb (thr d L) (.dma (osem k)) (default : HIx 1) (outB j).view.dmaCredit iprop(outP d L j (picked t T) ∗ osP d L k (rowsAt t T j))

/-! ## The copies' sizes, as the semaphores count them -/

theorem isS_credit : ∀ k : Fin 2, 0 < (isS k).view.dmaCredit := by decide +kernel
theorem outB_credit : ∀ j : Fin 64, 0 < (outB j).view.dmaCredit := by decide +kernel
theorem osS_credit : ∀ k : Fin 2, 0 < (osS k).view.dmaCredit := by decide +kernel
/-- The gather's 256 rows together are the slot. -/
theorem gather_credit : ∀ k : Fin 2,
    ∑ i, ((osS k).slice (S256x128.rowRect gathers_S1001x128_S256x128.axis' i) (S256x128.stride_rowRect gathers_S1001x128_S256x128.axis' i)).view.dmaCredit
      = (osS k).view.dmaCredit := by decide +kernel

variable [FloatOps F]

/-! ## The steps -/

variable {α : Type} {Φ : α → sProp (MT nD τ sig (HIx 1) (Elt F) ℕ UU ℕ)} {kk : PUnit → Prog (TpuEff nD τ sig (Elt F) Λ₀ (thr d L).2) α}

/-- Starting a fetch. -/
theorem fetch_step (k : Fin 2) (j : Fin 64) {src : Memref sig .scVector .hbm S1x256 .i32} {dst : Memref sig .scVector .vmem S1x256 .i32}
    {sem : DmaSem sig} {hsrc hdst hsem} (es : src = idxB j) (ed : dst = isS k) (em : sem = isem k) :
    iprop(idxP d L t j ∗ (∃ f, isP d L k f) ∗ zeroP d L (isem k))
      ⊢ iprop((fetching d L t k j -∗ wp frame (wpE (defs₀ (F := F)) 𝒱₀ (thr d L) none) Set.univ (kk ⟨⟩) Φ) -∗ wp frame (wpE (defs₀ (F := F)) 𝒱₀ (thr d L) none) Set.univ (.op (.enqueueDma src (.here dst) (.dma sem) hsrc hdst hsem) kk) Φ) := by
  subst es ed em
  iintro ⟨Hi, ⟨%f, Hs⟩, Hz⟩ Hk
  iapply (Transfers.wp_dmaLocal countersEmb 𝒱₀ (thr d L) none (default : HIx 1) (isS k).view.dmaCredit rfl (isS_credit k) (Finset.Subset.refl _)) $$ [Hi Hs Hz]
  · isplitl [Hi]; · iexact Hi
    isplitl [Hs]; · iexact Hs
    iexact Hz
  iintro Hf
  iapply Hk
  unfold fetching
  iapply (Transfers.Flight_mono countersEmb (c := thr d L)
    (sep_mono_left (Entails.of_eq (pointsTo_congr (fetch_lands t k j f))))) $$ Hf

omit [FloatOps F] in
theorem debt_open (O : CellTallies nD τ sig (HIx 1)) (W : Waits sig (HIx 1)) :
    (debt d L O W : sProp 𝕄) ⊢ iprop(Transfers.MayWaits (thr d L) (default : HIx 1) O ∗ ∃ W', ⌜∀ p ∈ W', p ∈ W ∨ p.2 = none⌝ ∗ owes (thr d L) O W') :=
  .rfl

omit [FloatOps F] in
/-- One more wait at the kernel's own index leaves the debt as it was. -/
theorem debt_waited (O : CellTallies nD τ sig (HIx 1)) (W : Waits sig (HIx 1)) {W' : Waits sig (HIx 1)} (s : DmaSem sig)
    (hW' : ∀ p ∈ W', p ∈ W ∨ p.2 = none) :
    (iprop(Transfers.MayWaits (thr d L) (default : HIx 1) O ∗ owes (thr d L) O (insert (SemLoc.dma s, default) W')) : sProp 𝕄) ⊢ debt d L O W := by
  unfold debt
  iintro ⟨Hmw, HO⟩
  isplitl [Hmw]; · iexact Hmw
  iexists _
  isplitr
  swap; · iexact HO
  ipureintro
  intro p hp
  rcases Finset.mem_insert.mp hp with hp | hp
  · exact .inr (hp ▸ rfl)
  · exact hW' p hp

/-- Its wait. -/
theorem fetched_step (k : Fin 2) (j : Fin 64) (O : CellTallies nD τ sig (HIx 1)) (W : Waits sig (HIx 1))
    {src : Memref sig .scVector .hbm S1x256 .i32} {dst : Memref sig .scVector .vmem S1x256 .i32}
    {sem : DmaSem sig} {hsrc hdst} (ed : dst = isS k) (em : sem = isem k) :
    iprop(fetching d L t k j ∗ debt d L O W)
      ⊢ iprop((iprop(isP d L k (numsAt t j) ∗ idxP d L t j ∗ zeroP d L (isem k) ∗ debt d L O W) -∗ wp frame (wpE (defs₀ (F := F)) 𝒱₀ (thr d L) none) Set.univ (kk ⟨⟩) Φ)
        -∗ wp frame (wpE (defs₀ (F := F)) 𝒱₀ (thr d L) none) Set.univ (.op (.waitDma2 sem src dst hsrc hdst) kk) Φ) := by
  subst ed em
  unfold fetching
  iintro ⟨Hf, Hd⟩ Hk
  ihave Hd := (debt_open d L O W) $$ Hd
  icases Hd with ⟨#Hmw, %W', %hW', HO⟩
  iapply (Transfers.wp_waitLocalO countersEmb 𝒱₀ (thr d L) none (default : HIx 1) rfl) $$ [Hf HO]
  · isplitl [Hf]; · iexact Hf
    isplitl [HO]; · iexact HO
    iapply (Transfers.MayWaits.elim (SemLoc.dma (isem k))) $$ Hmw
  iintro ⟨⟨Hs, Hi⟩, Hz, HO⟩
  iapply Hk
  isplitl [Hs]; · iexact Hs
  isplitl [Hi]; · iexact Hi
  isplitl [Hz]; · iexact Hz
  iapply (debt_waited d L O W (isem k) hW')
  isplitr; · iexact Hmw
  iexact HO

/-- Starting a write-out. -/
theorem store_step (k : Fin 2) (j : Fin 64) {src : Memref sig .scVector .vmem S256x128 .f32} {dst : Memref sig .scVector .hbm S256x128 .f32}
    {sem : DmaSem sig} {hsrc hdst hsem} (es : src = osS k) (ed : dst = outB j) (em : sem = osem k) :
    iprop((∃ f, outP d L j f) ∗ osP d L k (rowsAt t T j) ∗ zeroP d L (osem k))
      ⊢ iprop((storing d L t T k j -∗ wp frame (wpE (defs₀ (F := F)) 𝒱₀ (thr d L) none) Set.univ (kk ⟨⟩) Φ) -∗ wp frame (wpE (defs₀ (F := F)) 𝒱₀ (thr d L) none) Set.univ (.op (.enqueueDma src (.here dst) (.dma sem) hsrc hdst hsem) kk) Φ) := by
  subst es ed em
  iintro ⟨⟨%f, Ho⟩, Hs, Hz⟩ Hk
  iapply (Transfers.wp_dmaLocal countersEmb 𝒱₀ (thr d L) none (default : HIx 1) (outB j).view.dmaCredit rfl (outB_credit j) (Finset.Subset.refl _)) $$ [Ho Hs Hz]
  · isplitl [Hs]; · iexact Hs
    isplitl [Ho]; · iexact Ho
    iexact Hz
  iintro Hf
  iapply Hk
  unfold storing
  iapply (Transfers.Flight_mono countersEmb (c := thr d L)
    (sep_mono_left (Entails.of_eq (pointsTo_congr (store_lands t T k j f))))) $$ Hf

/-- Its wait. -/
theorem stored_step (k : Fin 2) (j : Fin 64) (O : CellTallies nD τ sig (HIx 1)) (W : Waits sig (HIx 1))
    {src : Memref sig .scVector .vmem S256x128 .f32} {dst : Memref sig .scVector .hbm S256x128 .f32}
    {sem : DmaSem sig} {hsrc hdst} (ed : dst = outB j) (em : sem = osem k) :
    iprop(storing d L t T k j ∗ debt d L O W)
      ⊢ iprop((iprop(outP d L j (picked t T) ∗ osP d L k (rowsAt t T j) ∗ zeroP d L (osem k) ∗ debt d L O W) -∗ wp frame (wpE (defs₀ (F := F)) 𝒱₀ (thr d L) none) Set.univ (kk ⟨⟩) Φ)
        -∗ wp frame (wpE (defs₀ (F := F)) 𝒱₀ (thr d L) none) Set.univ (.op (.waitDma2 sem src dst hsrc hdst) kk) Φ) := by
  subst ed em
  unfold storing
  iintro ⟨Hf, Hd⟩ Hk
  ihave Hd := (debt_open d L O W) $$ Hd
  icases Hd with ⟨#Hmw, %W', %hW', HO⟩
  iapply (Transfers.wp_waitLocalO countersEmb 𝒱₀ (thr d L) none (default : HIx 1) rfl) $$ [Hf HO]
  · isplitl [Hf]; · iexact Hf
    isplitl [HO]; · iexact HO
    iapply (Transfers.MayWaits.elim (SemLoc.dma (osem k))) $$ Hmw
  iintro ⟨⟨Ho, Hs⟩, Hz, HO⟩
  iapply Hk
  isplitl [Ho]; · iexact Ho
  isplitl [Hs]; · iexact Hs
  isplitl [Hz]; · iexact Hz
  iapply (debt_waited d L O W (osem k) hW')
  isplitr; · iexact Hmw
  iexact HO

/-- The gather of slot `k`'s rows, its numbers being block `j`'s, each below the table's height; and its wait. -/
theorem gather_step (k : Fin 2) (j : Fin 64) (q : PosShare TreeShare) (O : CellTallies nD τ sig (HIx 1)) (W : Waits sig (HIx 1))
    (hlt : ∀ i, (t i).toNat < 1001)
    {dst dst' : Memref sig .scVector .vmem S256x128 .f32} {offs : Memref sig .scVector .vmem S256 .i32}
    {hsrc hsrc' hdst'} (ed : dst = osS k) (eo : offs = listS k) (ed' : dst' = osS k) :
    iprop(tblP d L T q ∗ (∃ f, osP d L k f) ∗ isP d L k (numsAt t j) ∗ zeroP d L gsem ∗ debt d L O W)
      ⊢ iprop((iprop(tblP d L T q ∗ osP d L k (rowsAt t T j) ∗ isP d L k (numsAt t j) ∗ zeroP d L gsem ∗ debt d L O W) -∗ wp frame (wpE (defs₀ (F := F)) 𝒱₀ (thr d L) none) Set.univ (kk ⟨⟩) Φ)
        -∗ wp frame (wpE (defs₀ (F := F)) 𝒱₀ (thr d L) none) Set.univ ((SparseCore.enqueueIndirectGather (p := (thr d L).2) rfl tblB dst gathers_S1001x128_S256x128 offs rfl gsem hsrc rfl (Or.inl rfl)).bind fun _ =>
            (SparseCore.waitIndirectGather (p := (thr d L).2) gsem tblB dst' hsrc' hdst').bind kk) Φ) := by
  subst ed eo ed'
  have hin : ∀ x, ((listS k).view.read (Elt F) (numsAt t j) x).toNat < S1001x128.size gathers_S1001x128_S256x128.axis := fun x => by
    rw [read_listS]; exact hlt _
  iintro ⟨Ht, ⟨%f, Hs⟩, Hi, Hz, Hd⟩ Hk
  ihave Hd := (debt_open d L O W) $$ Hd
  icases Hd with ⟨#Hmw, %W', %hW', HO⟩
  ihave Hi' := (Entails.of_eq (show isP d L k (numsAt t j) = ((listS k).view.loc (thr d L) ↦[(listS k).view.set]{fullShare} numsAt t j : sProp 𝕄) by
    rw [set_listS])) $$ Hi
  iapply (SparseCore.wp_indirectGatherLocal countersEmb 𝒱₀ (thr d L) none (hg := gathers_S1001x128_S256x128) (default : HIx 1)
      (osS k).view.dmaCredit (gather_credit k) (by decide) hin) $$ [Ht Hs Hi' Hz]
  · isplitl [Ht]; · iexact Ht
    isplitl [Hs]; · iexact Hs
    isplitl [Hi']; · iexact Hi'
    iexact Hz
  iintro Hf
  iapply (Transfers.wp_waitLocalO countersEmb 𝒱₀ (thr d L) none (default : HIx 1) (rfl : (osS k).view.dmaCredit = _)) $$ [Hf HO]
  · isplitl [Hf]; · iexact Hf
    isplitl [HO]; · iexact HO
    iapply (Transfers.MayWaits.elim (SemLoc.dma gsem)) $$ Hmw
  iintro ⟨⟨Hs, Ht, Hi⟩, Hz, HO⟩
  iapply Hk
  isplitl [Ht]; · iexact Ht
  isplitl [Hs]
  · iapply (Entails.of_eq (pointsTo_congr (gather_lands t T k j f _ hin))) $$ Hs
  isplitl [Hi]
  · iapply (Entails.of_eq (show isP d L k (numsAt t j) = ((listS k).view.loc (thr d L) ↦[(listS k).view.set]{fullShare} numsAt t j : sProp 𝕄) by
      rw [set_listS]).symm) $$ Hi
  isplitl [Hz]; · iexact Hz
  iapply (debt_waited d L O W gsem hW')
  isplitr; · iexact Hmw
  iexact HO

end Cert.Proof

end
-- ==== Proof.Tile.lean ====
/-
  One task's run, on its vector subcore: both steps of the pipeline, from its two blocks of row numbers, its share of the
  table and its two blocks of the result, to the two blocks of the result holding the table's rows the numbers name.
-/
module

public import proofs.«01_k».proof.Proof.Steps
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program's names for the pieces -/

theorem idx_named {j : Fin 64} {off : Fin 2 → Nat} (h : off = ![0, 256 * j.val]) {p hs} :
    idxV.slice (Rect.unit (s := S1x16384) off S1x256.size p) hs = idxB j := Memref.slice_unit_congr _ h _ _ _ _
theorem out_named {j : Fin 64} {off : Fin 2 → Nat} (h : off = ![256 * j.val, 0]) {p hs} :
    outV.slice (Rect.unit (s := S16384x128) off S256x128.size p) hs = outB j := Memref.slice_unit_congr _ h _ _ _ _
theorem is_named {k : Fin 2} {off : Fin 3 → Nat} (h : off = ![k.val, 0, 0]) {p hs} :
    (isV.slice (Rect.unit (s := S2x1x256) off S1x1x256.size p) hs).squeeze S1x256 squeezes_S1x1x256_S1x256 = isS k :=
  congrArg (fun m : Memref sig .scVector .vmem S1x1x256 .i32 => m.squeeze S1x256 squeezes_S1x1x256_S1x256) (Memref.slice_unit_congr _ h _ _ _ _)
theorem list_named {k : Fin 2} {off : Fin 3 → Nat} (h : off = ![k.val, 0, 0]) {p hs} :
    (((isV.slice (Rect.unit (s := S2x1x256) off S1x1x256.size p) hs).squeeze S1x256 squeezes_S1x1x256_S1x256).slice
      (Rect.unit (s := S1x256) ![0, 0] S1x256.size inb_S1x256_S1x256_0_0) (fun _ => rfl)).squeeze S256 squeezes_S1x256_S256 = listS k :=
  congrArg (fun m : Memref sig .scVector .vmem S1x256 .i32 =>
    (m.slice (Rect.unit (s := S1x256) ![0, 0] S1x256.size inb_S1x256_S1x256_0_0) (fun _ => rfl)).squeeze S256 squeezes_S1x256_S256) (is_named h)
theorem os_named {k : Fin 2} {off : Fin 3 → Nat} (h : off = ![k.val, 0, 0]) {p hs} :
    (osV.slice (Rect.unit (s := S2x256x128) off S1x256x128.size p) hs).squeeze S256x128 squeezes_S1x256x128_S256x128 = osS k :=
  congrArg (fun m : Memref sig .scVector .vmem S1x256x128 .f32 => m.squeeze S256x128 squeezes_S1x256x128_S256x128) (Memref.slice_unit_congr _ h _ _ _ _)
theorem isem_named {k : Fin 2} {off : Fin 1 → Nat} (h : off = ![k.val]) {p} :
    ((cc0_scoped1.slice (Rect.unit (s := S2) off S1.size p)).squeeze S_ squeezes_S1_S_).sem = isem k := by subst h; rfl
theorem osem_named {k : Fin 2} {off : Fin 1 → Nat} (h : off = ![k.val]) {p} :
    ((cc0_scoped3.slice (Rect.unit (s := S2) off S1.size p)).squeeze S_ squeezes_S1_S_).sem = osem k := by subst h; rfl

variable (d : Dev nD) (L : grid0.Coords) (t : S16384.Idx → Elt F .i32) (T : S1001x128.Idx → Elt F .f32)
variable (q : PosShare TreeShare) (O : CellTallies nD τ sig (HIx 1)) (W : Waits sig (HIx 1))
variable [FloatOps F]

/-- A step's wait for its numbers and its gather. -/
theorem part2_run (hlt : ∀ i, (t i).toNat < 1001) (k : Fin 2) (arg6 arg9 : BitVec 32) (hw3 hw2 hw1)
    (arg5 : BitVec 32) (v64 v65 : BitVec 1) (v66 v71 v76 : BitVec 32) (v96 : BitVec 1) (h1 h2 h3 h4 h5) :
    iprop(fetching d L t k (blk L k) ∗ tblP d L T q ∗ (∃ f, osP d L k f) ∗ zeroP d L gsem ∗ debt d L O W)
      ⊢ wp frame (wpE (defs₀ (F := F)) 𝒱₀ (thr d L) none) Set.univ (k0_part2 L tblV h1 idxV h2 outV h3 isV h4 cc0_scoped1 osV h5 cc0_scoped3 cc0_scoped4 (trip k) arg6 (wd k) (wd k) arg9 (wd k)
          hw3 hw2 hw1 arg5 v64 v65 v66 v71 v76 v96)
        fun _ => iprop(idxP d L t (blk L k) ∗ isP d L k (numsAt t (blk L k)) ∗ zeroP d L (isem k) ∗ tblP d L T q ∗ osP d L k (rowsAt t T (blk L k))
          ∗ zeroP d L gsem ∗ debt d L O W) := by
  rw [k0_part2_eq_skeleton]; unfold k0_part2_skel
  simp only [dif_pos (cond2_eq L k), ite_self]
  iintro ⟨Hf, Ht, Hs, Hz, Hd⟩
  iapply (fetched_step d L t k (blk L k) O W (is_named (off7_eq k)) (isem_named (off9_eq k))) $$ [Hf Hd]
  · isplitl [Hf] <;> iassumption
  iintro ⟨Hi, Hx, Hiz, Hd⟩
  iapply (gather_step d L t T k (blk L k) q O W hlt (os_named (off10_eq k)) (list_named (off11_eq k)) (os_named (off10_eq k))) $$ [Ht Hs Hi Hz Hd]
  · isplitl [Ht]; · iexact Ht
    isplitl [Hs]; · iexact Hs
    isplitl [Hi]; · iexact Hi
    isplitl [Hz]; · iexact Hz
    iexact Hd
  iintro ⟨Ht, Hs, Hi, Hz, Hd⟩
  sl_step
  isplitl [Hx]; · iexact Hx
  isplitl [Hi]; · iexact Hi
  isplitl [Hiz]; · iexact Hiz
  isplitl [Ht]; · iexact Ht
  isplitl [Hs]; · iexact Hs
  isplitl [Hz]; · iexact Hz
  iexact Hd

/-- What every step uses and gives back: the share of the table, the gather's semaphore, what the subcore owes. -/
def common : sProp 𝕄 := iprop(tblP d L T q ∗ zeroP d L gsem ∗ debt d L O W)

/-- Nothing of step `k`'s fetch under way: its block of numbers, the slot at some contents, the semaphore at zero. -/
def inIdle (k : Fin 2) : sProp 𝕄 := iprop(idxP d L t (blk L k) ∗ (∃ f, isP d L k f) ∗ zeroP d L (isem k))
/-- Nothing of step `k`'s write-out under way: its block of the result at contents `g`, the slot, the semaphore at zero. -/
def outIdle (k : Fin 2) (g : S16384x128.Idx → Elt F .f32) : sProp 𝕄 :=
  iprop(outP d L (blk L k) g ∗ (∃ f, osP d L k f) ∗ zeroP d L (osem k))
/-- The middle of step `k`, from its numbers under way to its rows under way: the wait for the numbers and the gather,
    then the start of the write-out. -/
theorem middle_run (hlt : ∀ i, (t i).toNat < 1001) (k : Fin 2) (g : S16384x128.Idx → Elt F .f32) (arg6 arg9 : BitVec 32) (hw3 hw2 hw1)
    (arg5 : BitVec 32) (v64 v65 : BitVec 1) (v66 v71 v76 : BitVec 32) (v96 : BitVec 1) (h1 h2 h3 h4 h5)
    {src : Memref sig .scVector .vmem S256x128 .f32} {dst : Memref sig .scVector .hbm S256x128 .f32} {sem : DmaSem sig} {hsrc hdst hsem}
    (es : src = osS k) (ed : dst = outB (blk L k)) (em : sem = osem k)
    {α : Type} {Φ : α → sProp (MT nD τ sig (HIx 1) (Elt F) ℕ UU ℕ)} {kk : PUnit → Prog (TpuEff nD τ sig (Elt F) Λ₀ (thr d L).2) α} :
    iprop(fetching d L t k (blk L k) ∗ outIdle d L k g ∗ common d L T q O W)
      ⊢ iprop((iprop(inIdle d L t k ∗ storing d L t T k (blk L k) ∗ common d L T q O W) -∗ wp frame (wpE (defs₀ (F := F)) 𝒱₀ (thr d L) none) Set.univ (kk ⟨⟩) Φ)
        -∗ wp frame (wpE (defs₀ (F := F)) 𝒱₀ (thr d L) none) Set.univ (k0_part2 L tblV h1 idxV h2 outV h3 isV h4 cc0_scoped1 osV h5 cc0_scoped3 cc0_scoped4 (trip k) arg6 (wd k) (wd k) arg9 (wd k)
            hw3 hw2 hw1 arg5 v64 v65 v66 v71 v76 v96 >>= fun _ => .op (.enqueueDma src (.here dst) (.dma sem) hsrc hdst hsem) kk) Φ) := by
  rw [wp_bind]
  unfold outIdle common inIdle
  iintro ⟨Hf, ⟨Ho, Hs, Hoz⟩, Ht, Hz, Hd⟩ Hk
  ihave Hp := (part2_run d L t T q O W hlt k arg6 arg9 hw3 hw2 hw1 arg5 v64 v65 v66 v71 v76 v96 h1 h2 h3 h4 h5) $$ [Hf Hs Ht Hz Hd]
  · isplitl [Hf]; · iexact Hf
    isplitl [Ht]; · iexact Ht
    isplitl [Hs]; · iexact Hs
    isplitl [Hz]; · iexact Hz
    iexact Hd
  iapply (wp_wand _ _ _) $$ Hp
  iintro %_ ⟨Hi, Hx, Hiz, Ht, Hs, Hz, Hd⟩
  iapply (store_step d L t T k (blk L k) es ed em) $$ [Ho Hs Hoz]
  · isplitl [Ho]; · iexists _; iexact Ho
    isplitl [Hs]; · iexact Hs
    iexact Hoz
  iintro Hf
  iapply Hk
  isplitl [Hi Hx Hiz]
  · isplitl [Hi]; · iexact Hi
    isplitl [Hx]; · iexists _; iexact Hx
    iexact Hiz
  isplitl [Hf]; · iexact Hf
  isplitl [Ht]; · iexact Ht
  isplitl [Hz]; · iexact Hz
  iexact Hd

/-- A write-out's wait: its block of the result is the result. -/
theorem drained (k : Fin 2) {src : Memref sig .scVector .vmem S256x128 .f32} {dst : Memref sig .scVector .hbm S256x128 .f32}
    {sem : DmaSem sig} {hsrc hdst} (ed : dst = outB (blk L k)) (em : sem = osem k)
    {α : Type} {Φ : α → sProp (MT nD τ sig (HIx 1) (Elt F) ℕ UU ℕ)} {kk : PUnit → Prog (TpuEff nD τ sig (Elt F) Λ₀ (thr d L).2) α} :
    iprop(storing d L t T k (blk L k) ∗ common d L T q O W)
      ⊢ iprop((iprop(outIdle d L k (picked t T) ∗ common d L T q O W) -∗ wp frame (wpE (defs₀ (F := F)) 𝒱₀ (thr d L) none) Set.univ (kk ⟨⟩) Φ) -∗ wp frame (wpE (defs₀ (F := F)) 𝒱₀ (thr d L) none) Set.univ (.op (.waitDma2 sem src dst hsrc hdst) kk) Φ) := by
  unfold outIdle common
  iintro ⟨Hf, Ht, Hz, Hd⟩ Hk
  iapply (stored_step d L t T k (blk L k) O W ed em) $$ [Hf Hd]
  · isplitl [Hf] <;> iassumption
  iintro ⟨Ho, Hs, Hoz, Hd⟩
  iapply Hk
  isplitl [Ho Hs Hoz]
  · isplitl [Ho]; · iexact Ho
    isplitl [Hs]; · iexists _; iexact Hs
    iexact Hoz
  isplitl [Ht]; · iexact Ht
  isplitl [Hz]; · iexact Hz
  iexact Hd

/-- The number of the task's first block, as the kernel computes it. -/
abbrev base : BitVec 32 :=
  Scalar.muli (Scalar.addi (Scalar.addi 0#32 (Scalar.muli (BitVec.ofNat 32 (L 1).val) 1#32)) (Scalar.muli (BitVec.ofNat 32 (L 0).val) 16#32)) 2#32

/-- The first step: it starts the second block's fetch, then runs the first block through to its write-out. -/
theorem trip_zero (hlt : ∀ i, (t i).toNat < 1001) (g g' : S16384x128.Idx → Elt F .f32) (h1 h2 h3 h4 h5) :
    iprop(fetching d L t 0 (blk L 0) ∗ inIdle d L t 1 ∗ outIdle d L 0 g ∗ outIdle d L 1 g' ∗ common d L T q O W)
      ⊢ wp frame (wpE (defs₀ (F := F)) 𝒱₀ (thr d L) none) Set.univ (k0_t1_body L tblV h1 idxV h2 outV h3 isV h4 cc0_scoped1 osV h5 cc0_scoped3 cc0_scoped4 (base L) (trip 0) (1#32, 0#32, 0#32, 0#32, 0#32))
        fun r => iprop(⌜r = (2#32, 1#32, 1#32, 0#32, 1#32)⌝ ∗ fetching d L t 1 (blk L 1) ∗ inIdle d L t 0 ∗ storing d L t T 0 (blk L 0) ∗ outIdle d L 1 g'
          ∗ common d L T q O W) := by
  unfold k0_t1_body
  simp only [k0_part1_eq_skeleton]; unfold k0_part1_skel
  have c5 : k0_cond5 L (trip 0) 0#32 = 1#1 := cond5_eq L 0
  simp only [dif_pos (cond1_zero L), dif_pos c5, dif_neg (cond7_zero L), ite_self, bind_assoc, pure_bind, Prog.bind_lift]
  iintro ⟨Hf, HI1, HO0, HO1, Hc⟩
  iapply (wp_assume 𝒱₀ (thr d L) none Set.univ (chk3_eq 0))
  iapply (wp_assume 𝒱₀ (thr d L) none Set.univ (chk2_eq 0))
  iapply (wp_assume 𝒱₀ (thr d L) none Set.univ (chk1_zero L))
  ihave HI := (show inIdle d L t 1 ⊢ iprop(idxP d L t (blk L 1) ∗ (∃ f, isP d L 1 f) ∗ zeroP d L (isem 1)) from .rfl) $$ HI1
  iapply (fetch_step d L t 1 (blk L 1) (idx_named (off5_eq L)) (is_named off4_eq) (isem_named off6_eq)) $$ HI
  iintro Hf1
  iapply (middle_run d L t T q O W hlt 0 g _ _ _ _ _ _ _ _ _ _ _ _ h1 h2 h3 h4 h5 (os_named (off12_eq 0)) (out_named (off13_eq L 0)) (osem_named (off14_eq 0))) $$ [Hf HO0 Hc]
  · isplitl [Hf]; · iexact Hf
    isplitl [HO0]; · iexact HO0
    iexact Hc
  iintro ⟨HI, Hs, Hc⟩
  sl_step
  isplitr
  · ipureintro; clear hlt c5; revert L; decide +kernel
  isplitl [Hf1]; · iexact Hf1
  isplitl [HI]; · iexact HI
  isplitl [Hs]; · iexact Hs
  isplitl [HO1]; · iexact HO1
  iexact Hc

/-- The second step: it runs the second block through to its write-out, and waits for the first block's. -/
theorem trip_one (hlt : ∀ i, (t i).toNat < 1001) (g : S16384x128.Idx → Elt F .f32) (h1 h2 h3 h4 h5) :
    iprop(fetching d L t 1 (blk L 1) ∗ inIdle d L t 0 ∗ storing d L t T 0 (blk L 0) ∗ outIdle d L 1 g ∗ common d L T q O W)
      ⊢ wp frame (wpE (defs₀ (F := F)) 𝒱₀ (thr d L) none) Set.univ (k0_t1_body L tblV h1 idxV h2 outV h3 isV h4 cc0_scoped1 osV h5 cc0_scoped3 cc0_scoped4 (base L) (trip 1) (2#32, 1#32, 1#32, 0#32, 1#32))
        fun r => iprop(⌜r = (2#32, 2#32, 2#32, 1#32, 0#32)⌝ ∗ inIdle d L t 0 ∗ inIdle d L t 1 ∗ outIdle d L 0 (picked t T) ∗ storing d L t T 1 (blk L 1)
          ∗ common d L T q O W) := by
  unfold k0_t1_body
  simp only [k0_part1_eq_skeleton]; unfold k0_part1_skel
  have c5 : k0_cond5 L (trip 1) 1#32 = 1#1 := cond5_eq L 1
  simp only [dif_neg (cond1_one L), dif_pos c5, dif_pos (cond7_one L), ite_self, bind_assoc, pure_bind, Prog.bind_lift]
  iintro ⟨Hf, HI0, Hs0, HO1, Hc⟩
  iapply (wp_assume 𝒱₀ (thr d L) none Set.univ (chk3_eq 1))
  iapply (wp_assume 𝒱₀ (thr d L) none Set.univ (chk2_eq 1))
  iapply (wp_assume 𝒱₀ (thr d L) none Set.univ (chk1_one L))
  iapply (middle_run d L t T q O W hlt 1 g _ _ _ _ _ _ _ _ _ _ _ _ h1 h2 h3 h4 h5 (os_named (off12_eq 1)) (out_named (off13_eq L 1)) (osem_named (off14_eq 1))) $$ [Hf HO1 Hc]
  · isplitl [Hf]; · iexact Hf
    isplitl [HO1]; · iexact HO1
    iexact Hc
  iintro ⟨HI1, Hs1, Hc⟩
  iapply (drained d L t T q O W 0 (out_named (off16_eq L)) (osem_named off17_eq)) $$ [Hs0 Hc]
  · isplitl [Hs0] <;> iassumption
  iintro ⟨HO0, Hc⟩
  sl_step
  isplitr
  · ipureintro; clear hlt c5; revert L; decide +kernel
  isplitl [HI0]; · iexact HI0
  isplitl [HI1]; · iexact HI1
  isplitl [HO0]; · iexact HO0
  isplitl [Hs1]; · iexact Hs1
  iexact Hc

/-! ## The loop and the task -/

/-- After `n` steps: the words the loop carries, and what is under way. -/
def between (g : S16384x128.Idx → Elt F .f32) : ℕ → BitVec 32 × BitVec 32 × BitVec 32 × BitVec 32 × BitVec 32 → sProp 𝕄
  | 0, r => iprop(⌜r = (1#32, 0#32, 0#32, 0#32, 0#32)⌝ ∗ fetching d L t 0 (blk L 0) ∗ inIdle d L t 1 ∗ outIdle d L 0 g ∗ outIdle d L 1 g ∗ common d L T q O W)
  | 1, r => iprop(⌜r = (2#32, 1#32, 1#32, 0#32, 1#32)⌝ ∗ fetching d L t 1 (blk L 1) ∗ inIdle d L t 0 ∗ storing d L t T 0 (blk L 0) ∗ outIdle d L 1 g
      ∗ common d L T q O W)
  | _, r => iprop(⌜r = (2#32, 2#32, 2#32, 1#32, 0#32)⌝ ∗ inIdle d L t 0 ∗ inIdle d L t 1 ∗ outIdle d L 0 (picked t T) ∗ storing d L t T 1 (blk L 1)
      ∗ common d L T q O W)

theorem between_zero (g : S16384x128.Idx → Elt F .f32) :
    iprop(fetching d L t 0 (blk L 0) ∗ inIdle d L t 1 ∗ outIdle d L 0 g ∗ outIdle d L 1 g ∗ common d L T q O W)
      ⊢ between d L t T q O W g 0 (Scalar.addi 0#32 1#32, 0#32, 0#32, 0#32, 0#32) := by
  show _ ⊢ iprop(⌜(Scalar.addi 0#32 1#32, 0#32, 0#32, 0#32, 0#32) = (1#32, 0#32, 0#32, 0#32, 0#32)⌝ ∗ _)
  iintro H
  isplitr; · ipureintro; rfl
  iexact H

theorem between_step (hlt : ∀ i, (t i).toNat < 1001) (g : S16384x128.Idx → Elt F .f32) (h1 h2 h3 h4 h5) (k : Fin k0_t1_loop.trips)
    (r : BitVec 32 × BitVec 32 × BitVec 32 × BitVec 32 × BitVec 32) :
    between d L t T q O W g k.val r
      ⊢ wp frame (wpE (defs₀ (F := F)) 𝒱₀ (thr d L) none) Set.univ (k0_t1_body L tblV h1 idxV h2 outV h3 isV h4 cc0_scoped1 osV h5 cc0_scoped3 cc0_scoped4 (base L) k r) (between d L t T q O W g (k.val + 1)) := by
  have hk : k = trip 0 ∨ k = trip 1 := by
    have : k.val < 2 := trips_eq ▸ k.isLt
    rcases (by omega : k.val = 0 ∨ k.val = 1) with h | h
    · exact .inl (Fin.ext h)
    · exact .inr (Fin.ext h)
  rcases hk with rfl | rfl
  · show iprop(⌜r = (1#32, 0#32, 0#32, 0#32, 0#32)⌝ ∗ _) ⊢ _
    iintro ⟨%hr, H⟩
    subst hr
    iapply (trip_zero d L t T q O W hlt g g h1 h2 h3 h4 h5) $$ H
  · show iprop(⌜r = (2#32, 1#32, 1#32, 0#32, 1#32)⌝ ∗ _) ⊢ _
    iintro ⟨%hr, H⟩
    subst hr
    iapply (trip_one d L t T q O W hlt g h1 h2 h3 h4 h5) $$ H

/-- THE TASK: its two blocks of the result come out holding the table's rows its numbers name, all else as it was. -/
theorem task_run (hlt : ∀ i, (t i).toNat < 1001) (g : S16384x128.Idx → Elt F .f32) (h1 h2 h3 h4 h5) :
    iprop(inIdle d L t 0 ∗ inIdle d L t 1 ∗ outIdle d L 0 g ∗ outIdle d L 1 g ∗ common d L T q O W)
      ⊢ wp frame (wpE (defs₀ (F := F)) 𝒱₀ (thr d L) none) Set.univ (cc0__gather L tblV h1 idxV h2 outV h3 isV h4 cc0_scoped1 osV h5 cc0_scoped3 cc0_scoped4)
        fun _ => iprop(inIdle d L t 0 ∗ inIdle d L t 1 ∗ outIdle d L 0 (picked t T) ∗ outIdle d L 1 (picked t T) ∗ common d L T q O W) := by
  rw [cc0__gather_eq_skeleton]; unfold cc0__gather_skel
  simp only [k0_part3_eq_skeleton, k0_part4_eq_skeleton]; unfold k0_part3_skel k0_part4_skel
  simp only [bind_assoc, pure_bind, Prog.bind_lift]
  iintro ⟨HI0, HI1, HO0, HO1, Hc⟩
  ihave HI := (show inIdle d L t 0 ⊢ iprop(idxP d L t (blk L 0) ∗ (∃ f, isP d L 0 f) ∗ zeroP d L (isem 0)) from .rfl) $$ HI0
  iapply (fetch_step d L t 0 (blk L 0) (idx_named (off2_eq L)) (is_named off1_eq) (isem_named off3_eq)) $$ HI
  iintro Hf
  iapply (Scf.wp_for_bind _ _ _ _ _ _ _ _ _ (between d L t T q O W g) (fun k r => between_step d L t T q O W hlt g h1 h2 h3 h4 h5 k r)) $$ [Hf HI1 HO0 HO1 Hc]
  · iapply (between_zero d L t T q O W g)
    isplitl [Hf]; · iexact Hf
    isplitl [HI1]; · iexact HI1
    isplitl [HO0]; · iexact HO0
    isplitl [HO1]; · iexact HO1
    iexact Hc
  iintro %r H
  ihave H := (show between d L t T q O W g k0_t1_loop.trips r ⊢ iprop(⌜r = (2#32, 2#32, 2#32, 1#32, 0#32)⌝ ∗ inIdle d L t 0 ∗ inIdle d L t 1
      ∗ outIdle d L 0 (picked t T) ∗ storing d L t T 1 (blk L 1) ∗ common d L T q O W) by rw [trips_eq]; exact .rfl) $$ H
  icases H with ⟨%hr, HI0, HI1, HO0, Hs, Hc⟩
  subst hr
  iapply (wp_assume 𝒱₀ (thr d L) none Set.univ (chk5_eq L))
  iapply (wp_assume 𝒱₀ (thr d L) none Set.univ chk4_eq)
  iapply (drained d L t T q O W 1 (out_named (off19_eq L)) (osem_named off20_eq)) $$ [Hs Hc]
  · isplitl [Hs] <;> iassumption
  iintro ⟨HO1, Hc⟩
  sl_step
  isplitl [HI0]; · iexact HI0
  isplitl [HI1]; · iexact HI1
  isplitl [HO0]; · iexact HO0
  isplitl [HO1]; · iexact HO1
  iexact Hc

end Cert.Proof

end
-- ==== Proof.Pieces.lean ====
/-
  How the launch's arrays fall into the tasks' pieces: the row numbers and the result into 64 blocks, two a task; the table
  into 32 shares, one a task; a task's two scratch buffers into two slots each.
-/
module

public import proofs.«01_k».proof.Proof.Tile
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The pieces are equal parts of their arrays -/

theorem idiv : 64 ∣ S1x16384.size 1 := ⟨256, rfl⟩
theorem odiv : 64 ∣ S16384x128.size 0 := ⟨256, rfl⟩
theorem isdiv : 2 ∣ S2x1x256.size 0 := ⟨1, rfl⟩
theorem osdiv : 2 ∣ S2x256x128.size 0 := ⟨1, rfl⟩

theorem idxR_eq (j : Fin 64) : idxR j = Rect.part (s := S1x16384) (a₀ := 1) idiv j := by
  unfold idxR Rect.part Rect.block
  congr 1 <;> funext a <;> match a with
    | 0 => simp [Shape.partIx, Shape.partSize]
    | 1 => simp [Shape.partIx, Shape.partSize, Nat.mul_comm]

theorem outR_eq (j : Fin 64) : outR j = Rect.part (s := S16384x128) (a₀ := 0) odiv j := by
  unfold outR Rect.part Rect.block
  congr 1 <;> funext a <;> match a with
    | 0 => simp [Shape.partIx, Shape.partSize, Nat.mul_comm]
    | 1 => simp [Shape.partIx, Shape.partSize]

theorem isR_eq (k : Fin 2) : isR k = Rect.part (s := S2x1x256) (a₀ := 0) isdiv k := by
  unfold isR Rect.part Rect.block
  congr 1 <;> funext a <;> match a with
    | 0 => simp [Shape.partIx, Shape.partSize]
    | 1 => simp [Shape.partIx, Shape.partSize]
    | 2 => simp [Shape.partIx, Shape.partSize]

theorem osR_eq (k : Fin 2) : osR k = Rect.part (s := S2x256x128) (a₀ := 0) osdiv k := by
  unfold osR Rect.part Rect.block
  congr 1 <;> funext a <;> match a with
    | 0 => simp [Shape.partIx, Shape.partSize]
    | 1 => simp [Shape.partIx, Shape.partSize]
    | 2 => simp [Shape.partIx, Shape.partSize]

theorem set_idxB (j : Fin 64) : (idxB j).view.set = (Rect.part (s := S1x16384) (a₀ := 1) idiv j).set := by
  rw [← idxR_eq]
  show ((View.whole (main_v0_scv : Ref sig .scVector)).slice (idxR j)).set = _
  rw [View.set_slice]; exact Finset.map_refl

theorem set_outB (j : Fin 64) : (outB j).view.set = (Rect.part (s := S16384x128) (a₀ := 0) odiv j).set := by
  rw [← outR_eq]
  show ((View.whole (main_v1_scv : Ref sig .scVector)).slice (outR j)).set = _
  rw [View.set_slice]; exact Finset.map_refl

theorem set_isS (k : Fin 2) : (isS k).view.set = (Rect.part (s := S2x1x256) (a₀ := 0) isdiv k).set := by
  rw [← isR_eq]
  show (((View.whole (cc0_scoped0 : Ref sig .scVector)).slice (isR k)).reshape S1x256 squeezes_S1x1x256_S1x256.numel_eq).set = _
  rw [View.set_reshape, View.set_slice]; exact Finset.map_refl

theorem set_osS (k : Fin 2) : (osS k).view.set = (Rect.part (s := S2x256x128) (a₀ := 0) osdiv k).set := by
  rw [← osR_eq]
  show (((View.whole (cc0_scoped2 : Ref sig .scVector)).slice (osR k)).reshape S256x128 squeezes_S1x256x128_S256x128.numel_eq).set = _
  rw [View.set_reshape, View.set_slice]; exact Finset.map_refl

theorem set_tblB : tblB.view.set = Finset.univ := by
  ext y
  simp only [Finset.mem_univ, iff_true]
  exact Finset.mem_map.mpr ⟨y, Finset.mem_univ _, emb_tblB y⟩

/-! ## A scratch buffer is its two slots -/

/-- A buffer at some contents is its two parts, each at some contents. -/
theorem two_slots {ℓ : Loc nD τ sig} (A : Fin 2 → Finset (Idx ℓ)) (hd : Disjoint (A 0) (A 1)) (hc : A 0 ∪ A 1 = Finset.univ) :
    (iprop(∃ f : Buf (Elt F) ℓ, ℓ ↦{fullShare} f) : sProp 𝕄)
      ⊣⊢ iprop((∃ f : Buf (Elt F) ℓ, ℓ ↦[A 0]{fullShare} f) ∗ ∃ f : Buf (Elt F) ℓ, ℓ ↦[A 1]{fullShare} f) := by
  constructor
  · rw [← hc]
    iintro ⟨%f, H⟩
    ihave H := (pointsTo_union hd).1 $$ H
    icases H with ⟨H0, H1⟩
    isplitl [H0] <;> iexists f <;> iassumption
  · rw [← hc]
    iintro ⟨⟨%f, H0⟩, ⟨%g, H1⟩⟩
    iexists _
    iapply (pointsTo_join hd)
    isplitl [H0] <;> iassumption

/-- Two equal parts cover their shape. -/
theorem parts_cover {s : Shape} {a : Fin s.rank} (h : 2 ∣ s.size a) : (Rect.part h 0).set ∪ (Rect.part h 1).set = Finset.univ := by
  rw [← Rect.biUnion_part h, show (Finset.univ : Finset (Fin 2)) = {0, 1} by decide, Finset.biUnion_insert, Finset.singleton_biUnion]

variable (d : Dev nD) (L : grid0.Coords) (t : S16384.Idx → Elt F .i32) (T : S1001x128.Idx → Elt F .f32)

theorem is_slots : (iprop(∃ f, (thr d L).loc cc0_scoped0 ↦{fullShare} f) : sProp 𝕄) ⊣⊢ iprop((∃ f, isP d L 0 f) ∗ ∃ f, isP d L 1 f) :=
  two_slots (ℓ := (thr d L).loc cc0_scoped0) (fun k => (isS k).view.set)
    (by rw [set_isS, set_isS]; exact Rect.part_disjoint isdiv (by decide)) (by rw [set_isS, set_isS]; exact parts_cover isdiv)

theorem os_slots : (iprop(∃ f, (thr d L).loc cc0_scoped2 ↦{fullShare} f) : sProp 𝕄) ⊣⊢ iprop((∃ f, osP d L 0 f) ∗ ∃ f, osP d L 1 f) :=
  two_slots (ℓ := (thr d L).loc cc0_scoped2) (fun k => (osS k).view.set)
    (by rw [set_osS, set_osS]; exact Rect.part_disjoint osdiv (by decide)) (by rw [set_osS, set_osS]; exact parts_cover osdiv)

/-! ## The arrays are the tasks' pieces -/

/-- Task `i` of SparseCore `c`. -/
def task (c : Fin (grid0.bound 0)) (i : Fin (grid0.bound 1)) : grid0.Coords :=
  fun | 0 => c | 1 => i | ⟨_ + 2, h⟩ => absurd h (Nat.not_lt.2 (Nat.le_add_left _ _))

/-- A task's number among the 32, which names its share of the table. -/
def number (L : grid0.Coords) : Fin (2 ^ 5) :=
  ⟨(L 1).val + 16 * (L 0).val, by
    have h0 : (L 0).val < 2 := (L 0).isLt
    have h1 : (L 1).val < 16 := (L 1).isLt
    omega⟩

abbrev shareOf (L : grid0.Coords) : PosShare TreeShare := ShareLeaves.leaf 5 fullShare (number L)

/-- The 64 blocks are the tasks' two each. -/
theorem deal_blocks (Φ : Fin 64 → sProp 𝕄) :
    bigSep Finset.univ Φ
      = bigSep Finset.univ fun c : Fin 2 => bigSep Finset.univ fun i : Fin 16 => iprop(Φ (blk (task c i) 0) ∗ Φ (blk (task c i) 1)) := by
  rw [bigSep_univ_equiv (((Equiv.refl (Fin 2)).prodCongr (finProdFinEquiv (m := 16) (n := 2))).trans (finProdFinEquiv (m := 2) (n := 32))) Φ,
    bigSep_univ_prod]
  refine bigSep_congr fun c _ => ?_
  rw [bigSep_univ_prod]
  refine bigSep_congr fun i _ => ?_
  have e (k : Fin 2) : (((Equiv.refl (Fin 2)).prodCongr (finProdFinEquiv (m := 16) (n := 2))).trans (finProdFinEquiv (m := 2) (n := 32))) (c, i, k)
      = blk (task c i) k := Fin.ext (show k.val + 2 * i.val + 32 * c.val = 2 * (i.val + 16 * c.val) + k.val by omega)
  rw [bigSep_fin_two, e, e]
  rfl

/-- The 32 shares are the tasks' one each. -/
theorem deal_shares (Φ : Fin (2 ^ 5) → sProp 𝕄) :
    bigSep Finset.univ Φ = bigSep Finset.univ fun c : Fin 2 => bigSep Finset.univ fun i : Fin 16 => Φ (number (task c i)) := by
  rw [bigSep_univ_equiv (finProdFinEquiv (m := 2) (n := 16)) Φ, bigSep_univ_prod]
  refine bigSep_congr fun c _ => bigSep_congr fun i _ => congrArg Φ (Fin.ext ?_)
  rfl

abbrev arg0Loc (d : Dev nD) : Loc nD τ sig := (SparseCore.T d).loc main_arg0
abbrev arg1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

theorem deal_nums : (v0Loc d ↦{fullShare} nums t : sProp 𝕄)
    = bigSep Finset.univ fun c : Fin 2 => bigSep Finset.univ fun i : Fin 16 =>
        iprop(idxP d (task c i) t (blk (task c i) 0) ∗ idxP d (task c i) t (blk (task c i) 1)) := by
  rw [← Rect.biUnion_part idiv, pointsTo_biUnion Finset.univ (ℓ := v0Loc d) _ (fun i _ j _ h => Rect.part_disjoint idiv h), deal_blocks]
  refine bigSep_congr fun c _ => bigSep_congr fun i _ => ?_
  rw [← set_idxB, ← set_idxB]

theorem deal_out (g : S16384x128.Idx → Elt F .f32) : (v1Loc d ↦{fullShare} g : sProp 𝕄)
    = bigSep Finset.univ fun c : Fin 2 => bigSep Finset.univ fun i : Fin 16 =>
        iprop(outP d (task c i) (blk (task c i) 0) g ∗ outP d (task c i) (blk (task c i) 1) g) := by
  rw [← Rect.biUnion_part odiv, pointsTo_biUnion Finset.univ (ℓ := v1Loc d) _ (fun i _ j _ h => Rect.part_disjoint odiv h), deal_blocks]
  refine bigSep_congr fun c _ => bigSep_congr fun i _ => ?_
  rw [← set_outB, ← set_outB]

theorem deal_table : (arg1Loc d ↦{fullShare} T : sProp 𝕄)
    = bigSep Finset.univ fun c : Fin 2 => bigSep Finset.univ fun i : Fin 16 => tblP d (task c i) T (shareOf (task c i)) := by
  refine (ShareLeaves.pointsTo_leaves (ℓ := arg1Loc d) Finset.univ T 5 fullShare).trans ((deal_shares _).trans ?_)
  refine bigSep_congr fun c _ => bigSep_congr fun i _ => ?_
  rw [← set_tblB]

/-- What a task is handed, its blocks of the result at `g`'s contents. -/
abbrev held (g : S16384x128.Idx → Elt F .f32) : sProp 𝕄 :=
  iprop((idxP d L t (blk L 0) ∗ idxP d L t (blk L 1)) ∗ tblP d L T (shareOf L) ∗ outP d L (blk L 0) g ∗ outP d L (blk L 1) g)

/-- The three arrays whole are what the tasks are handed. -/
theorem deal (g : S16384x128.Idx → Elt F .f32) :
    (iprop((v0Loc d ↦{fullShare} nums t) ∗ (arg1Loc d ↦{fullShare} T) ∗ v1Loc d ↦{fullShare} g) : sProp 𝕄)
      = bigSep Finset.univ fun c : Fin 2 => bigSep Finset.univ fun i : Fin 16 => held d (task c i) t T g := by
  rw [deal_nums, deal_table, deal_out]
  simp only [bigSep_sep']

end Cert.Proof

end
-- ==== Proof.Launch.lean ====
/-
  THE RUN of the whole program, at any float values: the TensorCore lays the row numbers out as one row, starts the one
  SparseCore call and waits for it; the call hands each of the 32 tasks its pieces (Pieces.lean), each task runs (Tile.lean)
  and hands them back. Every weakly fair execution ends, nothing faulting, every semaphore at zero, both arguments as they
  were and the result at the table's rows that the numbers name — given that each number names a row of the table.
-/
module

public import proofs.«01_k».proof.Proof.Pieces
public import Idealize.ShloMosaic.Lib.StableHlo.Run

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A task's own buffers and semaphores -/

section Own

variable (d : Dev nD) (L : grid0.Coords)

/-- The semaphores the task uses: one a slot for each direction, and the gather's. -/
def sems : Finset (DmaSem sig) := {isem 0, isem 1, osem 0, osem 1, gsem}

/-- A semaphore as the task's own cell. -/
def cellOf : DmaSem sig ↪ GSem nD τ sig := ⟨fun s => (thr d L, .dma s), fun s s' h => by simpa using h⟩

theorem sems_own : sems.map (cellOf d L) ⊆ ownCells (thr d L) := by
  intro g hg
  obtain ⟨s, hs, rfl⟩ := Finset.mem_map.mp hg
  have h : ∀ s ∈ sems, (SemLoc.dma s : SemLoc sig).isScoped .scVector = true := by decide +kernel
  exact mem_ownCells.mpr ⟨rfl, h s hs⟩

/-- The task's semaphores are among its subcore's own. -/
theorem ownSems0_V : (ownSems0 (thr d L) : sProp 𝕄)
    = iprop((zeroP d L (isem 0) ∗ zeroP d L (isem 1) ∗ zeroP d L (osem 0) ∗ zeroP d L (osem 1) ∗ zeroP d L gsem)
        ∗ bigSep (ownCells (thr d L) \ sems.map (cellOf d L)) fun g => semVal g 0) := by
  unfold SparseCore.Cfg.ownSems0
  rw [bigSep_sdiff_split (sems_own d L), bigSep_map]
  unfold sems
  rw [SparseCore.bigSep_insert' (by decide +kernel), SparseCore.bigSep_insert' (by decide +kernel), SparseCore.bigSep_insert' (by decide +kernel),
    SparseCore.bigSep_insert' (by decide +kernel), bigSep_singleton]
  rfl

/-- The task's two scratch buffers are among its subcore's own. -/
theorem ownBufs_V : (ownBufs (thr d L) : sProp 𝕄)
    = iprop((∃ f, (thr d L).loc cc0_scoped0 ↦{fullShare} f) ∗ (∃ f, (thr d L).loc cc0_scoped2 ↦{fullShare} f)
        ∗ bigSep (((ownRefs (τ := τ) (thr d L).2).erase ((thr d L).2.devRef cc0_scoped0)).erase ((thr d L).2.devRef cc0_scoped2))
            fun b => iprop(∃ f, ((d, b) : Loc nD τ sig) ↦{fullShare} f)) := by
  unfold SparseCore.Cfg.ownBufs
  refine (SparseCore.bigSep_erase' (mem_ownRefs_of_owner (p := (thr d L).2) (b := (thr d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    mem_ownRefs_of_owner (p := (thr d L).2) (b := (thr d L).2.devRef cc0_scoped2) rfl⟩)]

end Own

variable [FloatOps F]

/-! ## The task, from what the call hands it -/

section Task

variable (d : Dev nD) (L : grid0.Coords) (t : S16384.Idx → Elt F .i32) (T : S1001x128.Idx → Elt F .f32)

theorem tile_body (hlt : ∀ i, (t i).toNat < 1001) (g : S16384x128.Idx → Elt F .f32) (O : CellTallies nD τ sig (HIx 1)) (W : Waits sig (HIx 1))
    (hO : ∀ c, O c none = 0) (h1 h2 h3 h4 h5) :
    iprop(levAts (K (F := F)).L (K (F := F)).lev ∗ emp ∗ held d L t T g ∗ scopedBufs (thr d L) ∗ scopedSems0 (thr d L) ∗ owes (thr d L) O W)
      ⊢ wp frame (wpE (defs₀ (F := F)) 𝒱₀ (thr d L) none) Set.univ (cc0__gather L tblV h1 idxV h2 outV h3 isV h4 cc0_scoped1 osV h5 cc0_scoped3 cc0_scoped4)
          fun _ => iprop(held d L t T (picked t T) ∗ scopedBufs (thr d L) ∗ scopedSems0 (thr d L)
            ∗ ∃ W', ⌜∀ p ∈ W', p ∈ W ∨ p.2 = none⌝ ∗ owes (thr d L) O W') := by
  rw [(K (F := F)).scopedBufs_V facts d _ _, SparseCore.Cfg.scopedSems0_V (Val := Elt F) d _ _, ownSems0_V, ownBufs_V]
  iintro ⟨#Hlv, -, ⟨⟨Hi0, Hi1⟩, Ht, Ho0, Ho1⟩, ⟨His, Hos, Hbufs⟩, ⟨⟨Hz0, Hz1, Hy0, Hy1, Hg⟩, Hsems⟩, HO⟩
  ihave Hmw := (show levAts (K (F := F)).L (K (F := F)).lev ⊢ Transfers.MayWaits (thr d L) (default : HIx 1) O from
    (K (F := F)).mayWaits_none (thr := thr d L) hO) $$ Hlv
  ihave His := (is_slots (F := F) d L).1 $$ His
  ihave Hos := (os_slots (F := F) d L).1 $$ Hos
  icases His with ⟨His0, His1⟩
  icases Hos with ⟨Hos0, Hos1⟩
  iapply (wp_wand _ _ _) $$ [Hi0 Hi1 Ht Ho0 Ho1 His0 His1 Hos0 Hos1 Hz0 Hz1 Hy0 Hy1 Hg HO Hmw]
  · iapply (task_run d L t T (shareOf L) O W hlt g h1 h2 h3 h4 h5)
    unfold inIdle outIdle common debt
    isplitl [Hi0 His0 Hz0]
    · isplitl [Hi0]; · iexact Hi0
      isplitl [His0] <;> iassumption
    isplitl [Hi1 His1 Hz1]
    · isplitl [Hi1]; · iexact Hi1
      isplitl [His1] <;> iassumption
    isplitl [Ho0 Hos0 Hy0]
    · isplitl [Ho0]; · iexact Ho0
      isplitl [Hos0] <;> iassumption
    isplitl [Ho1 Hos1 Hy1]
    · isplitl [Ho1]; · iexact Ho1
      isplitl [Hos1] <;> iassumption
    isplitl [Ht]; · iexact Ht
    isplitl [Hg]; · iexact Hg
    isplitl [Hmw]; · iexact Hmw
    iexists W
    isplitr; · ipureintro; exact fun p hp => .inl hp
    iexact HO
  iintro %_ H
  unfold inIdle outIdle common debt
  icases H with ⟨⟨Hi0, His0, Hz0⟩, ⟨Hi1, His1, Hz1⟩, ⟨Ho0, Hos0, Hy0⟩, ⟨Ho1, Hos1, Hy1⟩, Ht, Hg, -, HO⟩
  isplitl [Hi0 Hi1 Ht Ho0 Ho1]
  · isplitl [Hi0 Hi1]; · isplitl [Hi0] <;> iassumption
    isplitl [Ht]; · iexact Ht
    isplitl [Ho0] <;> iassumption
  isplitl [His0 His1 Hos0 Hos1 Hbufs]
  · isplitl [His0 His1]
    · iapply (is_slots (F := F) d L).2
      isplitl [His0] <;> iassumption
    isplitl [Hos0 Hos1]
    · iapply (os_slots (F := F) d L).2
      isplitl [Hos0] <;> iassumption
    iexact Hbufs
  isplitl [Hz0 Hz1 Hy0 Hy1 Hg Hsems]
  · isplitr [Hsems]
    · isplitl [Hz0]; · iexact Hz0
      isplitl [Hz1]; · iexact Hz1
      isplitl [Hy0]; · iexact Hy0
      isplitl [Hy1] <;> iassumption
    iexact Hsems
  iexact HO

end Task

/-! ## What the call carries -/

variable (m : (ℓ : Loc nD τ sig) → Buf (Elt F) ℓ)

/-- What the proof asks of the launch memory: each row number names a row of the table. -/
def PreOK : Prop := ∀ (d : Dev nD) (i : S16384.Idx), (m (arg0Loc d) i).toNat < 1001

/-- A task's pieces of the launch memory, its blocks of the result at `g`'s contents. -/
abbrev part (d : Dev nD) (c : Fin 2) (i : Fin 16) (g : S16384x128.Idx → Elt F .f32) : sProp 𝕄 :=
  held d (task c i) (m (arg0Loc d)) (m (arg1Loc d)) g

/-- The result on device `d`. -/
abbrev result (d : Dev nD) : S16384x128.Idx → Elt F .f32 := picked (m (arg0Loc d)) (m (arg1Loc d))

/-- A SparseCore is handed its sixteen tasks' pieces, a task its own; they come back with the result's blocks filled. -/
def P : (K (F := F)).Pay (nD := nD) (Val := Elt F) (Name := ℕ) (U := UU) where
  st := fun q d c => match q with | 0 => bigSep Finset.univ fun i : Fin 16 => part m d c i (m (v1Loc d))
  dn := fun q d c => match q with | 0 => bigSep Finset.univ fun i : Fin 16 => part m d c i (result m d)
  go := fun q d c i => match q with | 0 => part m d c i (m (v1Loc d))
  td := fun q d c i => match q with | 0 => part m d c i (result m d)
  x := fun _ _ => iprop(emp)

instance P_storable : (P (F := F) m).IsStorable where
  st q d c := match q with
    | 0 => (inferInstance : BI.Storable (upEmb : UEmb _ 𝕄) (bigSep Finset.univ fun i : Fin 16 => part m d c i (m (v1Loc d))))
  dn q d c := match q with
    | 0 => (inferInstance : BI.Storable (upEmb : UEmb _ 𝕄) (bigSep Finset.univ fun i : Fin 16 => part m d c i (result m d)))
  go q d c i := match q with
    | 0 => (inferInstance : BI.Storable (upEmb : UEmb _ 𝕄) (part m d c i (m (v1Loc d))))
  td q d c i := match q with
    | 0 => (inferInstance : BI.Storable (upEmb : UEmb _ 𝕄) (part m d c i (result m d)))

theorem defs₀_vector (c : Fin τ.nSC) (s : Fin τ.nSub) :
    defs₀ (F := F) (.scVector c s) 0 ()
      = SparseCore.onTile hcore0 hsub0 (fun c s => cc0__gather (task c s)
          tblV (Memref.isWhole_whole _) idxV (Memref.isWhole_whole _) outV (Memref.isWhole_whole _)
          isV (Memref.isWhole_whole _) cc0_scoped1 osV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (task ⟨_, hci.1⟩ ⟨_, hci.2⟩) _ _ (hpre d) _ O W hO _ _ _ _ _).trans (wp_mono frame _ _ fun _ => obl_post)

theorem vecSplit : (K (F := F)).VecSplit' (P m) 0 := by
  intro d c
  show (bigSep Finset.univ fun i : Fin 16 => part m d c i (m (v1Loc d))) ⊢ |={Set.univ}=> iprop(
      (bigSep Finset.univ fun i : Fin 16 => part m d c i (m (v1Loc d)))
      ∗ ((bigSep Finset.univ fun i : Fin 16 => part m d c i (result m d)) -∗ bigSep Finset.univ fun i : Fin 16 => part m d c i (result m d)))
  iintro H; imodintro
  isplitl [H]; · iexact H
  iintro H
  iexact H

/-! ## The launch element of the ghost state -/

def u₀ : UU := (initOf (K (F := F)).hsCells (K (F := F)).hsToks, 1)

/-- Any number of nothings are nothing. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1)
      ∗ (v0Loc d ↦{fullShare} W main_v0) ∗ v1Loc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the call is handed over both SparseCores is the three arrays whole; -/
theorem st0_eq (d : Dev nD) : (bigSep Finset.univ fun c : Fin ((K (F := F)).nCore 0) => (P m).st 0 d c)
    = iprop((v0Loc d ↦{fullShare} nums (m (arg0Loc d))) ∗ (arg1Loc d ↦{fullShare} m (arg1Loc d)) ∗ v1Loc d ↦{fullShare} m (v1Loc d)) :=
  (deal d (m (arg0Loc d)) (m (arg1Loc d)) (m (v1Loc d))).symm
/-- and what it hands back is them with the result filled. -/
theorem dn0_eq (d : Dev nD) : (bigSep Finset.univ fun c : Fin ((K (F := F)).nCore 0) => (P m).dn 0 d c)
    = iprop((v0Loc d ↦{fullShare} nums (m (arg0Loc d))) ∗ (arg1Loc d ↦{fullShare} m (arg1Loc d)) ∗ v1Loc d ↦{fullShare} result m d) :=
  (deal d (m (arg0Loc d)) (m (arg1Loc d)) (result m d)).symm

/-- The TensorCore's one operation: the row numbers laid out as one row. -/
abbrev layOut : HloOp τ sig (Elt F) := StableHlo.reshape main_arg0 main_v0 (rfl : (.i32 : EltTy) = .i32) shapeCasts_S16384_S1x16384

/-- Laid out as one row, number `i` is at `(0, i)`. -/
theorem nums_eq (t : S16384.Idx → Elt F .i32) : shapeCast S1x16384 t shapeCasts_S16384_S1x16384 = nums t := by
  funext p
  refine congrArg t (Shape.reshapeEquiv_eq_of_rowMajor _ ?_)
  rw [Shape.rowMajor_val_two, Shape.rowMajor_val_one]
  have h : (p 0).val < 1 := (p 0).isLt
  show (p 1).val = (p 0).val * 16384 + (p 1).val
  omega

/-- The launch memory of device `d`, as the operation reads it. -/
def V0 (d : Dev nD) : Valuation τ sig (Elt F) := fun b => m (d, b)

abbrev FIN (d : Dev nD) : sProp 𝕄 :=
  iprop((arg0Loc d ↦{fullShare} m (arg0Loc d)) ∗ (arg1Loc d ↦{fullShare} m (arg1Loc d)) ∗ v1Loc d ↦{fullShare} result m d)

theorem layOut_pre (d : Dev nD) : (bigSep (layOut (F := F)).bufs (fun b => ((d, b) ↦{fullShare} V0 m d b : sProp 𝕄)))
    = iprop((arg0Loc d ↦{fullShare} m (arg0Loc d)) ∗ v0Loc d ↦{fullShare} m (v0Loc d)) := by
  rw [show (layOut (F := F)).bufs = {Proc.devRef .tc main_arg0, Proc.devRef .tc main_v0} from rfl,
    SparseCore.bigSep_insert' (by decide), bigSep_singleton]
  rfl

theorem layOut_post (d : Dev nD) : (bigSep (layOut (F := F)).bufs (fun b => ((d, b) ↦{fullShare} (layOut (F := F)).result (V0 m d) b : sProp 𝕄)))
    = iprop((arg0Loc d ↦{fullShare} m (arg0Loc d)) ∗ v0Loc d ↦{fullShare} nums (m (arg0Loc d))) := by
  rw [show (layOut (F := F)).bufs = {Proc.devRef .tc main_arg0, Proc.devRef .tc main_v0} from rfl,
    SparseCore.bigSep_insert' (by decide), bigSep_singleton, StableHlo.reshape_result, StableHlo.reshape_result_ne (h := by decide)]
  rw [← nums_eq]
  rfl

variable (ρ : Dev nD → PrngReg)

/-- @main on device `d`'s TensorCore: the row numbers laid out, then the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, HT, Hn, Ho⟩, Hts, -⟩, -⟩
  iapply (wp_hlo 𝒱 (SparseCore.T d) none Set.univ (op := layOut) (q := fun _ => fullShare) (F := V0 m d) (fun _ _ => rfl)) $$ [Hb Ht Hn]
  · isplitl [Hb]; · iexact Hb
    iapply (Entails.of_eq (layOut_pre m d).symm)
    isplitl [Ht] <;> iassumption
  iintro ⟨Hb, H⟩
  rw [wp_ret]; imodintro
  ihave H := (Entails.of_eq (layOut_post m d)) $$ H
  icases H with ⟨Ht, Hn⟩
  iapply ((K (F := F)).wp_run (D (F := F)) 𝒱 (EH := EH) (P := P m) κ d 0) $$ [Hst HT Hn Ho Hb Hts Ht]
  isplitr; · iexact Hctx
  isplitl [Hst]; · iexact Hst
  isplitl [HT Hn Ho]
  · rw [st0_eq]
    isplitl [Hn]; · iexact Hn
    isplitl [HT] <;> iassumption
  iintro ⟨Hst, Hdn⟩
  ihave Hdn' := (Entails.of_eq (dn0_eq m d)) $$ Hdn
  icases Hdn' with ⟨-, HT, Ho⟩
  imodintro
  isplitl [Hst]; · iexact Hst
  isplitr [Hb Hts]
  · isplitl [Ht]; · iexact Ht
    isplitl [HT] <;> iassumption
  isplitl [Hb] <;> iassumption

def fq (d : Dev nD) (s' : Phys nD τ sig (Elt F)) : Prop :=
  s'.mem.mem (arg0Loc d) = m (arg0Loc d) ∧ s'.mem.mem (arg1Loc d) = m (arg1Loc d) ∧ s'.mem.mem (v1Loc d) = result m d

set_option maxRecDepth 16384 in
theorem hfin (d : Dev nD) (s' : Phys nD τ sig (Elt F)) : iprop(FIN m d ∗ SI s') ⊢ (⌜fq m d s'⌝ : sProp 𝕄) := by
  have agree (ℓ : Loc nD τ sig) (f : Buf (Elt F) ℓ) : iprop(SI s' ∗ ℓ ↦{fullShare} f) ⊢ (iprop(⌜s'.mem.mem ℓ = f⌝ ∗ SI s' ∗ ℓ ↦{fullShare} f) : sProp 𝕄) := by
    refine (persistent_entails_right (SI_pointsTo_agree (st := s') (ℓ := ℓ) (I := Finset.univ) (q := fullShare) (f := f))).trans ?_
    iintro ⟨%h, H⟩
    isplitr; · ipureintro; exact funext fun i => h i (Finset.mem_univ i)
    iexact H
  iintro ⟨⟨Ht, HT, Ho⟩, HSI⟩
  ihave H := (agree _ _) $$ [HSI Ht]; · isplitl [HSI] <;> iassumption
  icases H with ⟨%h0, HSI, -⟩
  ihave H := (agree _ _) $$ [HSI HT]; · isplitl [HSI] <;> iassumption
  icases H with ⟨%h1, HSI, -⟩
  ihave H := (agree _ _) $$ [HSI Ho]; · isplitl [HSI] <;> iassumption
  icases H with ⟨%h2, -, -⟩
  ipureintro; exact ⟨h0, h1, h2⟩

/-! ## The program's run -/

/-- What every execution ends in. -/
def QC : PUnit × MemSt nD τ sig (Elt F) → Prop := fun r =>
  (∀ c : Dev nD, r.2.mem (arg0Loc c) = m (arg0Loc c) ∧ r.2.mem (arg1Loc c) = m (arg1Loc c) ∧ r.2.mem (v1Loc c) = result m c)
    ∧ r.2.sem = fun _ => 0

/-- THE RUN: from any launch memory whose row numbers each name a row of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Value.lean ====
/-
  The reference's value: `jnp.take(time_embs, timestep, axis=0)` — a wrap of negative numbers, a gather of rows, a mask for
  numbers outside the table — is, where every number names a row, the rows the numbers name (`picked`, Blocks.lean), at any
  float values; and the precondition says exactly that every number names a row.
-/
module

public import proofs.«01_k».proof.Proof.Blocks
public import proofs.«01_k».proof.Proof.Gen.ReferenceIdeal
public import proofs.«01_k».proof.Proof.Gen.Pre_in_table
public import Idealize.ShloMosaic.Lib.ReduceAll
public import Idealize.ShloMosaic.Lib.Routing.Ops

@[expose] public section

noncomputable section

namespace Cert.Proof

open Idealize.ShloMosaic Idealize.ShloMosaic.ValueIdx
open Cert.ReferenceIdeal Cert.ReferenceIdeal.Gen

variable {F : FTy → Type} [FloatOps F]

/-! ## A number that names a row -/

/-- A comparison's bit is one where the comparison holds. -/
theorem ofBool_one (p : Bool) : BitVec.ofBool p = 1#1 ↔ p = true := by cases p <;> decide

/-- A word between 0 and 1000, read signed, is a number below 1001; and conversely. -/
theorem below_iff (v : BitVec 32) : IntOp.andi (IntOp.cmpi .sge v 0#32) (IntOp.cmpi .sle v 1000#32) = 1#1 ↔ v.toNat < 1001 := by
  rw [IntOp.andi_eq_one]
  simp only [IntOp.cmpi, ofBool_one, BitVec.sle_eq_decide, decide_eq_true_eq, BitVec.toInt_eq_toNat_cond, BitVec.toNat_ofNat,
    Nat.reducePow, Nat.reduceMod]
  omega

/-- A number below 1001 is not negative, read signed. -/
theorem not_negative (v : BitVec 32) (h : v.toNat < 1001) : IntOp.cmpi .slt v 0#32 = 0#1 := by
  have e : BitVec.slt v 0#32 = false := by
    simp only [BitVec.slt_eq_decide, decide_eq_false_iff_not, BitVec.toInt_eq_toNat_cond, BitVec.toNat_ofNat, Nat.reducePow, Nat.reduceMod]
    omega
  simp only [IntOp.cmpi, e]; rfl

/-! ## The precondition -/

/-- THE PRECONDITION, READ BACK: every number names a row of the table. -/
theorem below_of_pre (t : S16384.Idx → Elt F .i32) (T : S1001x128.Idx → Elt F .f32)
    (h : Cert.Pre_in_table.fn (F := F) t T = fun _ => 1#1) (i : S16384.Idx) : (t i).toNat < 1001 := by
  have : Subsingleton Cert.Pre_in_table.S_.Idx := ⟨fun a b => funext fun x => x.elim0⟩
  have e := Host.reduce_andi_all _ _ _ _ (fun x => x.elim0) (congrFun h fun x => x.elim0) i
  exact (below_iff (t i)).mp e

/-! ## The reference's term -/

/-- The wrap of negative numbers. -/
def wrapped (t : S16384.Idx → Elt F .i32) : S16384.Idx → Elt F .i32 :=
  select (cmpi .slt t (broadcastInDim S16384 ![] bcast_S_S16384 (constantI S_ 32 0#32)))
    (addi t (broadcastInDim S16384 ![] bcast_S_S16384 (constantI S_ 32 1001#32))) t

/-- The wrapped numbers as a column. -/
def column (t : S16384.Idx → Elt F .i32) : S16384x1.Idx → Elt F .i32 :=
  broadcastInDim S16384x1 ![0] bcast_S16384_S16384x1_0 (wrapped (F := F) t)

/-- The reference's result, as its run states it. -/
def taken (t : S16384.Idx → Elt F .i32) (T : S1001x128.Idx → Elt F .f32) : S16384x128.Idx → Elt F .f32 :=
  select (broadcastInDim S16384x128 ![0] bcast_S16384_S16384x128_0
      (Host.reduce IntOp.andi
        (andi (cmpi .sge (column (F := F) t) (broadcastInDim S16384x1 ![] bcast_S_S16384x1 (constantI S_ 32 0#32)))
          (cmpi .sle (column (F := F) t) (broadcastInDim S16384x1 ![0, 1] bcast_S1x1_S16384x1_0_1 (broadcastInDim S1x1 ![1] bcast_S1_S1x1_1 (constantI S1 32 1000#32)))))
        (constantI S_ 1 1#1) reducesTo_S16384x1_S16384_d1 h_S_))
    (Host.gather gather_S1001x128_S16384x1_S16384x128_1_0_n_n_0_1_1128 T (column (F := F) t))
    (broadcastInDim S16384x128 ![] bcast_S_S16384x128 (constant S_ .f32 0x7FC00000#32))

variable (t : S16384.Idx → Elt F .i32) (T : S1001x128.Idx → Elt F .f32) (hlt : ∀ i, (t i).toNat < 1001)

include hlt in
/-- No number is negative: the wrap changes nothing. -/
theorem wrapped_eq : wrapped (F := F) t = t := by
  funext i
  show Scalar.select (IntOp.cmpi .slt (t i) 0#32) _ (t i) = t i
  rw [not_negative _ (hlt i)]
  rfl

include hlt in
/-- Row `p 0` of the column is number `p 0`. -/
theorem column_eq (p : S16384x1.Idx) : column (F := F) t p = t (ix1 (p 0 : Fin 16384)) := by
  unfold column
  rw [wrapped_eq t hlt]
  show t _ = _
  congr 1
  funext a
  match a with
  | ⟨0, _⟩ => rfl

include hlt in
/-- THE REFERENCE'S VALUE: row `r` of its result is the table's row that number `r` names. -/
theorem taken_eq : taken (F := F) t T = picked t T := by
  funext p
  obtain ⟨r, c, rfl⟩ : ∃ (r : Fin 16384) (c : Fin 128), p = ix2 r c := ⟨p 0, p 1, funext fun a => match a with | ⟨0, _⟩ => rfl | ⟨1, _⟩ => rfl⟩
  unfold taken
  show Scalar.select (Host.reduce IntOp.andi _ _ _ _ _) _ _ = _
  rw [Host.reduce_andi_one _ _ _ _ _ rfl (fun i => by
    show IntOp.andi (IntOp.cmpi .sge (column (F := F) t i) 0#32) (IntOp.cmpi .sle (column (F := F) t i) 1000#32) = 1#1
    rw [column_eq t hlt]; exact (below_iff _).mpr (hlt _))]
  refine (select_one _ _).trans ?_
  refine (Routing.gather_row _ rfl rfl rfl rfl rfl T _ r c (Fin.ofNat 1001 (t (ix1 r)).toNat) ?_ (by decide)).trans rfl
  rw [column_eq t hlt]
  apply BitVec.eq_of_toNat_eq
  have h := hlt (ix1 r)
  show (t (ix1 r)).toNat = ((t (ix1 r)).toNat % 1001) % 2 ^ 32
  omega

end Cert.Proof

end
-- ==== Proof.lean ====
/-
  The claims, assembled. The kernel's run (`run_main`, Launch.lean) is stated once, over any float values: its `Bits` and
  `Ideal` instances are the two kernel frames (the values dropped) and the kernel's half of the two value claims. The
  reference's half is its own run, read by `taken_eq` (Value.lean). Both runs end at the rows the numbers name.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_in_table
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-! ## The instances -/

/-- The precondition of the bits' claims says that every number names a row, on every device; -/
theorem pre_bits {m : (ℓ : Loc Cert.Kernel.nD Cert.Kernel.τ Cert.Kernel.sig) → Buf (Elt Bits) ℓ} (h : Cert.Pre_Kernel m) :
    PreOK (F := Bits) m := fun d => below_of_pre _ _ (h d)

/-- and so does that of the ideal claims. -/
theorem pre_ideal {m : (ℓ : Loc Cert.KernelIdeal.nD Cert.KernelIdeal.τ Cert.KernelIdeal.sig) → Buf (Elt Ideal) ℓ} (h : Cert.Pre_KernelIdeal m) :
    PreOK (F := Ideal) m := fun d => below_of_pre _ _ (h d)

/-! ## The kernel's frames -/

/-- The kernel, on bits, runs to the end, leaves its arguments and every counter as they were. -/
theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ (pre_bits hpre))

/-- The same run at the ideal values. -/
theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (pre_ideal hpre))

/-! ## The reference's frames -/

/-- The reference at the ideal values runs from any memory and leaves its arguments as they were; it has no counters. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference on bits. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- KERNEL AND REFERENCE AGREE at the ideal values: both results are the rows the numbers name. -/
theorem agree_ideal : Cert.algebraic_KernelIdeal_ReferenceIdeal := fun m ρ m' ρ' hpre hag =>
  ⟨fun c => result (F := Ideal) m c,
    (θ_run Cert.KernelIdeal.defs _ _).mono (fun _ h c => ⟨(h.1 c).2.2, (h.1 c).1, (h.1 c).2.1⟩) (run_main (F := Ideal) m ρ (pre_ideal hpre)),
    (θ_run Cert.ReferenceIdeal.defs _ _).mono (fun _ h c => ⟨(h c).1.trans ((congrArg₂ (taken (F := Ideal)) (hag c).1 (hag c).2).trans
      (taken_eq _ _ (pre_ideal hpre c))), (h c).2⟩) (Cert.ReferenceIdeal.Value.run (F := Ideal) m' ρ')⟩

/-- KERNEL AND REFERENCE AGREE bit for bit. -/
theorem agree_bits : Cert.bitexact_Kernel_Reference := fun m ρ m' ρ' hpre hag =>
  ⟨fun c => result (F := Bits) m c,
    (θ_run Cert.KernelIdeal.defs _ _).mono (fun _ h c => ⟨(h.1 c).2.2, (h.1 c).1, (h.1 c).2.1⟩) (run_main (F := Bits) m ρ (pre_bits hpre)),
    (θ_run Cert.Reference.defs _ _).mono (fun _ h c => ⟨(h c).1.trans ((congrArg₂ (taken (F := Bits)) (hag c).1 (hag c).2).trans
      (taken_eq _ _ (pre_bits hpre c))), (h c).2⟩) (Cert.Reference.Value.run (F := Bits) m' ρ')⟩

/-- EVERYTHING CLAIMED. -/
theorem claim : Cert.Claim := ⟨Cert.Kernel.Gen.facts, Cert.KernelIdeal.Gen.facts, Cert.ReferenceIdeal.Gen.facts, Cert.Reference.Gen.facts, Cert.Pre_in_table.Gen.facts,
  frame_kernel, frame_ideal, frame_reference_ideal, fun m ρ _ => frame_reference_ideal m ρ trivial, frame_reference, trivial, agree_ideal, agree_bits⟩

end Cert.Proof

end
